-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S2x2048 : Shape := ⟨2, ![2, 2048]⟩
abbrev S8x256x2048 : Shape := ⟨3, ![8, 256, 2048]⟩
abbrev S3x2x2048 : Shape := ⟨3, ![3, 2, 2048]⟩
abbrev S8x2 : Shape := ⟨2, ![8, 2]⟩
abbrev S3 : Shape := ⟨1, ![3]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1 : Shape := ⟨1, ![1]⟩
abbrev S1x2x2048 : Shape := ⟨3, ![1, 2, 2048]⟩

abbrev nBuf : Space → Nat
  | .hbm => 4
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S8x256x2048, .f32⟩
  | .local _ .vmem, ⟨2, _⟩ => ⟨S8x256x2048, .f32⟩
  | .local _ .vmem, ⟨3, _⟩ => ⟨S3x2x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v10 : BitVec 32 := Scalar.muli v2 c2048_i32
  let v11 : BitVec 32 := Scalar.addi v10 c0_i32
  let c0_i32_13 : BitVec 32 := 0#32
  ![v11.toNat, 0]
def k0_dev1 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v123 : BitVec 32 := Scalar.muli v2 c2_i32_121
  let v124 : BitVec 32 := Scalar.addi c0_i32_122 v123
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v125 : BitVec 32 := Scalar.muli v6 c1_i32_123
  let v126 : BitVec 32 := Scalar.addi v124 v125
  v126.toNat
def k0_dev2 (d0 : Dev nD) : Nat :=
  let c0_i32_126 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_125 : BitVec 32 := 2#32
  let v127 : BitVec 32 := Scalar.muli v7 c2_i32_125
  let v128 : BitVec 32 := Scalar.addi c0_i32_126 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_127 : BitVec 32 := 1#32
  let v129 : BitVec 32 := Scalar.muli v5 c1_i32_127
  let v130 : BitVec 32 := Scalar.addi v128 v129
  v130.toNat
def k0_dev3 (d0 : Dev nD) : Nat :=
  let c0_i32_130 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_129 : BitVec 32 := 2#32
  let v131 : BitVec 32 := Scalar.muli v8 c2_i32_129
  let v132 : BitVec 32 := Scalar.addi c0_i32_130 v131
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_131 : BitVec 32 := 1#32
  let v133 : BitVec 32 := Scalar.muli v9 c1_i32_131
  let v134 : BitVec 32 := Scalar.addi v132 v133
  v134.toNat
def k0_dev4 (d0 : Dev nD) : Nat :=
  let c0_i32_332 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_331 : BitVec 32 := 2#32
  let v435 : BitVec 32 := Scalar.muli v2 c2_i32_331
  let v436 : BitVec 32 := Scalar.addi c0_i32_332 v435
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_333 : BitVec 32 := 1#32
  let v437 : BitVec 32 := Scalar.muli v6 c1_i32_333
  let v438 : BitVec 32 := Scalar.addi v436 v437
  v438.toNat
def k0_dev5 (d0 : Dev nD) : Nat :=
  let c0_i32_340 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_339 : BitVec 32 := 2#32
  let v445 : BitVec 32 := Scalar.muli v7 c2_i32_339
  let v446 : BitVec 32 := Scalar.addi c0_i32_340 v445
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_341 : BitVec 32 := 1#32
  let v447 : BitVec 32 := Scalar.muli v5 c1_i32_341
  let v448 : BitVec 32 := Scalar.addi v446 v447
  v448.toNat
def k0_dev6 (d0 : Dev nD) : Nat :=
  let c0_i32_348 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_347 : BitVec 32 := 2#32
  let v455 : BitVec 32 := Scalar.muli v8 c2_i32_347
  let v456 : BitVec 32 := Scalar.addi c0_i32_348 v455
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_349 : BitVec 32 := 1#32
  let v457 : BitVec 32 := Scalar.muli v9 c1_i32_349
  let v458 : BitVec 32 := Scalar.addi v456 v457
  v458.toNat
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.IdealCells.lean ====
/-
The exchange of partial results between the four devices: the semaphores and buffers it uses, who pays what to whom, and
the order in which the waits may happen.

The devices are numbered `c = 2 * x + y`. Device `c` sends its partial result to its three peers: peer `0` differs in
`y`, peer `1` in `x`, peer `2` in both. Each peer relation is its own inverse, and the partial result of peer `k` of
`c` lands in slot `k` of `c`'s landing buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra

The staging cells' rounds, the exchange's rounds (a cell's duties are named by the peer that pays them), and the counters
of the local copies. A semaphore's tallies carry a `Bool`: `false` for the copies inside one device, `true` for the
exchange. -/

abbrev UB : Type := URounds (GSem nD τ sig) (Fin 3)
abbrev UU : Type := UR sig nD τ × (UB × Counters)

local notation "𝕄" => MT nD τ sig Bool (Elt F) ℕ UU ℕ

abbrev EP : Emb (UR sig nD τ) (MT nD τ sig Bool (Elt F) ℕ UU ℕ) := embL
/-- The exchange's component. -/
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-! ## The peers -/

/-- Peer `k` of device `c`: across `y`, across `x`, across both. -/
def peer (k : Fin 3) (c : Dev nD) : Dev nD :=
  match k with
  | 0 => ![1, 0, 3, 2] c
  | 1 => ![2, 3, 0, 1] c
  | 2 => ![3, 2, 1, 0] c

theorem peer_peer (k : Fin 3) (c : Dev nD) : peer k (peer k c) = c := by revert k c; decide

/-- The peer relation as a permutation of the devices. -/
def peerEquiv (k : Fin 3) : Dev nD ≃ Dev nD := ⟨peer k, peer k, peer_peer k, peer_peer k⟩

theorem dev1_eq (c : Dev nD) : (⟨k0_dev1 c, k0_dev1_lt c⟩ : Dev nD) = peer 0 c :=
  Fin.ext ((k0_dev1_eq c).trans (by revert c; decide))
theorem dev2_eq (c : Dev nD) : (⟨k0_dev2 c, k0_dev2_lt c⟩ : Dev nD) = peer 1 c :=
  Fin.ext ((k0_dev2_eq c).trans (by revert c; decide))
theorem dev3_eq (c : Dev nD) : (⟨k0_dev3 c, k0_dev3_lt c⟩ : Dev nD) = peer 2 c :=
  Fin.ext ((k0_dev3_eq c).trans (by revert c; decide))
theorem dev4_eq (c : Dev nD) : (⟨k0_dev4 c, k0_dev4_lt c⟩ : Dev nD) = peer 0 c :=
  Fin.ext ((k0_dev4_eq c).trans (by revert c; decide))
theorem dev5_eq (c : Dev nD) : (⟨k0_dev5 c, k0_dev5_lt c⟩ : Dev nD) = peer 1 c :=
  Fin.ext ((k0_dev5_eq c).trans (by revert c; decide))
theorem dev6_eq (c : Dev nD) : (⟨k0_dev6 c, k0_dev6_lt c⟩ : Dev nD) = peer 2 c :=
  Fin.ext ((k0_dev6_eq c).trans (by revert c; decide))

/-! ## The buffers and the semaphores -/

/-- The output's staging buffer: it holds the partial result while the copies read it, the sum at the end. -/
abbrev oM : Memref sig .tc .vmem S2x2048 .f32 := Memref.whole cc0_stg0_0
/-- The landing buffer, and its three slots. -/
abbrev cM : Memref sig .tc .vmem S3x2x2048 .f32 := Memref.whole cc0_scratch2
abbrev slotM : Fin 3 → Memref sig .tc .vmem S2x2048 .f32
  | 0 => (cM.slice (Rect.unit (s := S3x2x2048) ![0, 0, 0] S1x2x2048.size inb_S3x2x2048_S1x2x2048_0_0_0) (fun _ => rfl)).squeeze S2x2048 squeezes_S1x2x2048_S2x2048
  | 1 => (cM.slice (Rect.unit (s := S3x2x2048) ![1, 0, 0] S1x2x2048.size inb_S3x2x2048_S1x2x2048_1_0_0) (fun _ => rfl)).squeeze S2x2048 squeezes_S1x2x2048_S2x2048
  | 2 => (cM.slice (Rect.unit (s := S3x2x2048) ![2, 0, 0] S1x2x2048.size inb_S3x2x2048_S1x2x2048_2_0_0) (fun _ => rfl)).squeeze S2x2048 squeezes_S1x2x2048_S2x2048

/-- The barrier semaphore, and the three send and three receive semaphores. -/
abbrev barS : Sem sig := (SemArray.scalar (sig.barrier 0 rfl) : Sems sig S_).sem
abbrev sendS : Fin 3 → DmaSem sig
  | 0 => ((cc0_scratch4.slice (Rect.unit (s := S3) ![0] S1.size inb_S3_S1_0)).squeeze S_ squeezes_S1_S_).sem
  | 1 => ((cc0_scratch4.slice (Rect.unit (s := S3) ![1] S1.size inb_S3_S1_1)).squeeze S_ squeezes_S1_S_).sem
  | 2 => ((cc0_scratch4.slice (Rect.unit (s := S3) ![2] S1.size inb_S3_S1_2)).squeeze S_ squeezes_S1_S_).sem
abbrev recvS : Fin 3 → DmaSem sig
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The kernel's own scoped semaphores: the sixteen of the local copies, the three send, the three receive. -/
abbrev osem : Fin 22 → SemLoc sig := fun j => .dma ⟨j.val + 1, Nat.lt_of_lt_of_le (Nat.succ_lt_succ j.isLt) (by decide)⟩
/-- The seven cells of the exchange on one device: the barrier, the sends, the receives. -/
abbrev csem : Fin 7 → SemLoc sig
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

/-- What one copy of a partial result credits. -/
abbrev N : ℕ := oM.view.dmaCredit
theorem N_pos : 0 < N := View.dmaCredit_pos _ (by decide)
theorem slot_credit (k : Fin 3) : (slotM k).view.dmaCredit = N := by fin_cases k <;> rfl

/-! ## What the cells' units stand for

`P c` is the partial result of device `c`. -/

variable (P : Dev nD → Vec F S2x2048 .f32)

/-- Slot `k` of device `c`'s landing buffer. -/
def slotPts (k : Fin 3) (c : Dev nD) (f : Buf (Elt F) ((slotM k).view.loc (c : Thread nD τ))) : sProp 𝕄 :=
  (slotM k).view.loc (c : Thread nD τ) ↦[(slotM k).view.set]{fullShare} f

/-- The three shares of the staging buffer, one under each copy in flight. -/
def shareOf : Fin 3 → PosShare TreeShare
  | 0 => fullShare.left
  | 1 => fullShare.right.left
  | 2 => fullShare.right.right

/-- The staging buffer holding device `c`'s partial result, at the share of copy `k`. -/
def outPts (k : Fin 3) (c : Dev nD) : sProp 𝕄 :=
  oM.view.loc (c : Thread nD τ) ↦[oM.view.set]{shareOf k} (P c)

/-- What peer `k`'s signal hands device `c`: the peer's landing slot `k`, and that the peer is at the start of its
    receive cell `k`. -/
def barPay (k : Fin 3) (c : Dev nD) : sProp 𝕄 := iprop((∃ f, slotPts k (peer k c) f) ∗ reached ER (recvCell k (peer k c)) 0)
/-- What device `c` gets back when copy `k` has been read out. -/
def sendPay (k : Fin 3) (c : Dev nD) : sProp 𝕄 := outPts P k c
/-- What device `c` has when slot `k` is filled: the slot, reading as peer `k`'s partial result. -/
def recvPay (k : Fin 3) (c : Dev nD) : sProp 𝕄 :=
  iprop(∃ f, ⌜(slotM k).view.read (Elt F) f = P (peer k c)⌝ ∗ slotPts k c f)

omit [FloatOps F] in
instance slotPts_storable (k : Fin 3) (c : Dev nD) (f) : BI.Storable (upEmb : UEmb _ 𝕄) (slotPts (F := F) k c f) := by
  unfold slotPts; infer_instance
omit [FloatOps F] in
instance outPts_storable (k : Fin 3) (c : Dev nD) : BI.Storable (upEmb : UEmb _ 𝕄) (outPts (F := F) P k c) := by
  unfold outPts; infer_instance

/-! ## The schedule: one round -/

/-- Which peer a send or receive semaphore belongs to. -/
def kOf (sm : SemLoc sig) : Fin 3 :=
  if sm = .dma (sendS 1) ∨ sm = .dma (recvS 1) then 1 else if sm = .dma (sendS 2) ∨ sm = .dma (recvS 2) then 2 else 0
abbrev IsBar (sm : SemLoc sig) : Prop := sm = .reg barS
abbrev IsSend (sm : SemLoc sig) : Prop := ∃ k, sm = .dma (sendS k)
abbrev IsRecv (sm : SemLoc sig) : Prop := ∃ k, sm = .dma (recvS k)

theorem kOf_send (k : Fin 3) : kOf (.dma (sendS k)) = k := by revert k; decide
theorem kOf_recv (k : Fin 3) : kOf (.dma (recvS k)) = k := by revert k; decide
theorem send_not_bar (k : Fin 3) : ¬ IsBar (.dma (sendS k)) := fun h => by cases h
theorem recv_not_bar (k : Fin 3) : ¬ IsBar (.dma (recvS k)) := fun h => by cases h
theorem send_not_recv (k : Fin 3) : ¬ IsRecv (.dma (sendS k)) := by revert k; decide
theorem recv_not_send (k : Fin 3) : ¬ IsSend (.dma (recvS k)) := by revert k; decide
theorem bar_not_recv : ¬ IsRecv (.reg barS) := fun ⟨_, h⟩ => by cases h

/-- A barrier cell has three duties of one unit, one per peer; a send or receive cell one duty of a copy's credit. -/
def sched : Rounds.Schedule (GSem nD τ sig) (Fin 3) 𝕄 where
  duties g r := if r = 0 ∧ g.1.2 = .tc then (if IsBar g.2 then Finset.univ else if IsSend g.2 ∨ IsRecv g.2 then {0} else ∅) else ∅
  unitless _ := False
  amount g _ _ := if IsBar g.2 then 1 else N
  payload g _ d :=
    if IsBar g.2 then barPay d g.1.1
    else if IsRecv g.2 then recvPay P (kOf g.2) g.1.1
    else if IsSend g.2 then sendPay P (kOf g.2) g.1.1
    else iprop(emp)
  amount_pos g _ _ _ := by
    by_cases h : IsBar g.2
    · rw [if_pos h]; exact Nat.one_pos
    · rw [if_neg h]; exact N_pos

instance sched_payload_storable (g : GSem nD τ sig) (r : ℕ) (d : Fin 3) :
    BI.Storable (upEmb : UEmb _ 𝕄) ((sched (F := F) P).payload g r d) := by
  show BI.Storable upEmb (if IsBar g.2 then barPay d g.1.1 else if IsRecv g.2 then recvPay P (kOf g.2) g.1.1
    else if IsSend g.2 then sendPay P (kOf g.2) g.1.1 else iprop(emp))
  unfold barPay recvPay sendPay
  (repeat' split) <;> infer_instance

section Sched
variable (c : Dev nD) (k : Fin 3)

omit [FloatOps F] in
theorem duties_bar : (sched (F := F) P).duties (barCell c) 0 = Finset.univ := by
  dsimp only [sched]; rw [if_pos ⟨rfl, rfl⟩, if_pos rfl]
omit [FloatOps F] in
theorem duties_send : (sched (F := F) P).duties (sendCell k c) 0 = {0} := by
  dsimp only [sched]; rw [if_pos ⟨rfl, rfl⟩, if_neg (send_not_bar k), if_pos (.inl ⟨k, rfl⟩)]
omit [FloatOps F] in
theorem duties_recv : (sched (F := F) P).duties (recvCell k c) 0 = {0} := by
  dsimp only [sched]; rw [if_pos ⟨rfl, rfl⟩, if_neg (recv_not_bar k), if_pos (.inr ⟨k, rfl⟩)]
omit [FloatOps F] in
theorem duties_later (g : GSem nD τ sig) : ∀ r, 1 ≤ r → (sched (F := F) P).duties g r = ∅ :=
  fun r hr => by dsimp only [sched]; rw [if_neg fun h => by omega]

omit [FloatOps F] in
theorem amount_bar (d : Fin 3) : (sched (F := F) P).amount (barCell c) 0 d = 1 := by dsimp only [sched]; exact if_pos rfl
omit [FloatOps F] in
theorem amount_send (d : Fin 3) : (sched (F := F) P).amount (sendCell k c) 0 d = N := by
  dsimp only [sched]; exact if_neg (send_not_bar k)
omit [FloatOps F] in
theorem amount_recv (d : Fin 3) : (sched (F := F) P).amount (recvCell k c) 0 d = N := by
  dsimp only [sched]; exact if_neg (recv_not_bar k)

omit [FloatOps F] in
theorem expect_bar : (sched (F := F) P).expect (barCell c) 0 = 3 := by
  unfold Schedule.expect Schedule.amountOf
  rw [duties_bar, Finset.sum_congr rfl fun d _ => amount_bar P c d, Finset.sum_const, Finset.card_univ, Fintype.card_fin, smul_eq_mul]
omit [FloatOps F] in
theorem expect_send : (sched (F := F) P).expect (sendCell k c) 0 = N := by
  unfold Schedule.expect Schedule.amountOf; rw [duties_send, Finset.sum_singleton, amount_send]
omit [FloatOps F] in
theorem expect_recv : (sched (F := F) P).expect (recvCell k c) 0 = N := by
  unfold Schedule.expect Schedule.amountOf; rw [duties_recv, Finset.sum_singleton, amount_recv]

omit [FloatOps F] in
theorem payload_bar : (sched (F := F) P).payload (barCell c) 0 k = barPay k c := by dsimp only [sched]; rw [if_pos rfl]
omit [FloatOps F] in
theorem payload_send (d : Fin 3) : (sched (F := F) P).payload (sendCell k c) 0 d = sendPay P k c := by
  dsimp only [sched]; rw [if_neg (send_not_bar k), if_neg (send_not_recv k), if_pos ⟨k, rfl⟩, kOf_send]
omit [FloatOps F] in
theorem payload_recv (d : Fin 3) : (sched (F := F) P).payload (recvCell k c) 0 d = recvPay P k c := by
  dsimp only [sched]; rw [if_neg (recv_not_bar k), if_pos ⟨k, rfl⟩, kOf_recv]

omit [FloatOps F] in
/-- The barrier's round, whole: the three peers' landing slots. -/
theorem rest_bar : bigSep ((sched (F := F) P).duties (barCell c) 0 \ ∅) (fun d => (sched (F := F) P).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons,
    bigSepL_singleton, payload_bar, payload_bar, payload_bar]
  rfl
omit [FloatOps F] in
theorem rest_send : bigSep ((sched (F := F) P).duties (sendCell k c) 0 \ ∅) (fun d => (sched (F := F) P).payload (sendCell k c) 0 d) = sendPay P k c := by
  rw [Finset.sdiff_empty, duties_send, bigSep_singleton, payload_send]
omit [FloatOps F] in
theorem rest_recv : bigSep ((sched (F := F) P).duties (recvCell k c) 0 \ ∅) (fun d => (sched (F := F) P).payload (recvCell k c) 0 d) = recvPay P k c := by
  rw [Finset.sdiff_empty, duties_recv, bigSep_singleton, payload_recv]

end Sched

/-! ## What each device owes at launch, and the levels of the waits -/

/-- Device `c` owes each peer one copy's credit at the receive cell -/
def owedRecv (c : Dev nD) : CellTallies nD τ sig Bool :=
  tallyAt (recvCell 2 (peer 2 c)) true N + tallyAt (recvCell 1 (peer 1 c)) true N + tallyAt (recvCell 0 (peer 0 c)) true N
/-- and one unit at the barrier, the first signal's summand last. -/
def owedAll (c : Dev nD) : CellTallies nD τ sig Bool :=
  owedRecv c + tallyAt (barCell (peer 2 c)) true 1 + tallyAt (barCell (peer 1 c)) true 1 + tallyAt (barCell (peer 0 c)) true 1

def L (g : GSem nD τ sig) : Finset Bool := if g.1.2 = .tc then Finset.univ else ∅
/-- The local copies' waits come before everything, then the barrier's, then the receive cells'. -/
def lv (g : GSem nD τ sig) (i : Bool) : ℕ := if i = false then 0 else if IsBar g.2 then 1 else if IsRecv g.2 then 2 else 0

theorem L_of_ne (g : GSem nD τ sig) (h : g.1.2 ≠ .tc) : L g = ∅ := if_neg h
theorem mem_L_tc (c : Dev nD) (sm : SemLoc sig) (i : Bool) : i ∈ L ((c : Thread nD τ), sm) := by
  unfold L; rw [if_pos rfl]; exact Finset.mem_univ _

theorem owedRecv_pos {c : Dev nD} {g : GSem nD τ sig} {u : Bool} (h : 0 < owedRecv c g u) :
    ∃ k, g = recvCell k (peer k c) ∧ u = true := by
  unfold owedRecv at h
  rw [Pi.add_apply, Finsupp.add_apply, Pi.add_apply, Finsupp.add_apply, tallyAt_apply, tallyAt_apply, tallyAt_apply] at h
  by_contra hn
  rw [if_neg (fun h' => hn ⟨2, h'⟩), if_neg (fun h' => hn ⟨1, h'⟩), if_neg (fun h' => hn ⟨0, h'⟩)] at h
  exact Nat.lt_irrefl 0 h
theorem owedAll_pos {c : Dev nD} {g : GSem nD τ sig} {u : Bool} (h : 0 < owedAll c g u) :
    (∃ k, g = recvCell k (peer k c) ∧ u = true) ∨ ∃ k, g = barCell (peer k c) ∧ u = true := by
  by_contra hn
  have hr : owedRecv c g u = 0 := Nat.eq_zero_of_not_pos fun h' => hn (.inl (owedRecv_pos h'))
  unfold owedAll at h
  rw [Pi.add_apply, Finsupp.add_apply, Pi.add_apply, Finsupp.add_apply, Pi.add_apply, Finsupp.add_apply, tallyAt_apply, tallyAt_apply,
    tallyAt_apply, hr, if_neg (fun h' => hn (.inr ⟨2, h'⟩)), if_neg (fun h' => hn (.inr ⟨1, h'⟩)), if_neg (fun h' => hn (.inr ⟨0, h'⟩))] at h
  exact Nat.lt_irrefl 0 h

theorem lv_recv (k : Fin 3) (c : Dev nD) : lv (recvCell k c) true = 2 := by
  unfold lv; rw [if_neg (by decide), if_neg (recv_not_bar k), if_pos ⟨k, rfl⟩]
theorem lv_bar (c : Dev nD) : lv (barCell c) true = 1 := by unfold lv; rw [if_neg (by decide), if_pos rfl]
theorem lv_false (g : GSem nD τ sig) : lv g false = 0 := by unfold lv; rw [if_pos rfl]

omit [FloatOps F] in
/-- A local copy's or a staging wait is allowed whatever the device still owes the exchange. -/
theorem mayWait_false (c : Dev nD) (sm : SemLoc sig) (O : CellTallies nD τ sig Bool) (hO : O = owedAll c ∨ O = owedRecv c ∨ O = 0) :
    (levAts L lv : sProp 𝕄) ⊢ MayWait (c : Thread nD τ) sm false O := by
  have hw : ∀ p ∈ ({(sm, false)} : Waits sig Bool), lv ((c : Thread nD τ), p.1) p.2 ≤ 0 := fun p hp => by
    rw [Finset.mem_singleton.mp hp, lv_false]
  rcases hO with rfl | rfl | rfl
  · refine MayOwe.of_cut (L := L) (lev := lv) 0 (fun p _ => mem_L_tc c _ _) (fun g u hg => ?_) hw (fun g u hg => ?_)
    · rcases owedAll_pos hg with ⟨k, rfl, rfl⟩ | ⟨k, rfl, rfl⟩ <;> exact mem_L_tc _ _ _
    · rcases owedAll_pos hg with ⟨k, rfl, rfl⟩ | ⟨k, rfl, rfl⟩
      · rw [lv_recv]; decide
      · rw [lv_bar]; decide
  · refine MayOwe.of_cut (L := L) (lev := lv) 0 (fun p _ => mem_L_tc c _ _) (fun g u hg => ?_) hw (fun g u hg => ?_)
    · obtain ⟨k, rfl, rfl⟩ := owedRecv_pos hg; exact mem_L_tc _ _ _
    · obtain ⟨k, rfl, rfl⟩ := owedRecv_pos hg; rw [lv_recv]; decide
  · rw [MayWait_zero]; iintro -; iempintro

omit [FloatOps F] in
/-- At its barrier wait a device owes the three receive credits only. -/
theorem mayWait_bar (c : Dev nD) : (levAts L lv : sProp 𝕄) ⊢ MayWait (c : Thread nD τ) (.reg barS) true (owedRecv c) :=
  MayOwe.of_cut (L := L) (lev := lv) 1 (fun p _ => mem_L_tc c _ _)
    (fun g u hg => by obtain ⟨k, rfl, rfl⟩ := owedRecv_pos hg; exact mem_L_tc _ _ _)
    (fun p hp => by rw [Finset.mem_singleton.mp hp, lv_bar])
    (fun g u hg => by obtain ⟨k, rfl, rfl⟩ := owedRecv_pos hg; rw [lv_recv]; decide)

end Cert.KernelIdealRun
-- ==== Proof.IdealBlocks.lean ====
/-
One device's share of the work: eight blocks of 256 rows of `x` and of `dy`, each copied into its slot of a buffer, and
the partial result the eight blocks give. Stated for any float instance.
-/
module

public import proofs.«01_k».proof.Proof.IdealCells
public import Idealize.ShloMosaic.Lib.ValueLayout

@[expose] public section

set_option maxRecDepth 16384

noncomputable section

namespace Cert.KernelIdealRun

open Cert.KernelIdeal Cert.KernelIdeal.Gen

open Idealize.ShloMosaic
open Idealize.ShloMosaic.TcCoe
open Idealize.ShloMosaic.ValueIdx (ix2)

variable {F : FTy → Type} [FloatOps F]

/-! ## What the blocks give -/

/-- Block `i` of device `c`'s share of an argument: 256 rows, the device's share starting at row `2048 * (c / 2)`. -/
def rowBlock (X : Vec F S4096x2048 .f32) (c : Dev nD) (i : Fin 8) : Vec F S256x2048 .f32 :=
  fun j => X (ix2 ⟨2048 * (c.val / 2) + 256 * i.val + (j 0).val, by
    have h0 : (j 0).val < 256 := (j 0).isLt
    have h1 := i.isLt
    have h2 : c.val < 4 := c.isLt
    omega⟩ (j 1))

/-- The block as it lies in its slot. -/
def slotBlock (X : Vec F S4096x2048 .f32) (c : Dev nD) (i : Fin 8) : Vec F S1x256x2048 .f32 :=
  shapeCast S1x256x2048 (rowBlock X c i) (by decide)

/-- One block's contribution added to the sum for `gamma`, and to the sum for `beta`. -/
def gammaStep (acc : FVec F S1x2048 .f32) (x dy : Vec F S1x256x2048 .f32) : FVec F S1x2048 .f32 :=
  k0_pay7 acc (k0_pay4 dy) (k0_pay5 x) (k0_pay6 x)
def betaStep (acc : FVec F S1x2048 .f32) (dy : Vec F S1x256x2048 .f32) : FVec F S1x2048 .f32 :=
  k0_pay8 acc (k0_pay4 dy)

def gammaSum (bx bdy : Fin 8 → Vec F S1x256x2048 .f32) : FVec F S1x2048 .f32 :=
  ([0, 1, 2, 3, 4, 5, 6, 7] : List (Fin 8)).foldl (fun acc i => gammaStep acc (bx i) (bdy i)) k0_pay2
def betaSum (bdy : Fin 8 → Vec F S1x256x2048 .f32) : FVec F S1x2048 .f32 :=
  ([0, 1, 2, 3, 4, 5, 6, 7] : List (Fin 8)).foldl (fun acc i => betaStep acc (bdy i)) k0_pay3

/-- The two sums, one row each. -/
def stack (g b : FVec F S1x2048 .f32) : Vec F S2x2048 .f32 :=
  concatenate S2x2048 0 [⟨S1x2048, g⟩, ⟨S1x2048, b⟩] concatenates_S1x2048_S1x2048_S2x2048_d0

def partialOf (bx bdy : Fin 8 → Vec F S1x256x2048 .f32) : Vec F S2x2048 .f32 := stack (gammaSum bx bdy) (betaSum bdy)

/-- Device `c`'s partial result, from its two arguments. -/
def partialAt (X DY : Vec F S4096x2048 .f32) (c : Dev nD) : Vec F S2x2048 .f32 :=
  partialOf (slotBlock X c) (slotBlock DY c)

/-! ## Slots of a buffer -/

section Slots
variable {Val : EltTy → Type} (M : Memref sig .tc .vmem S8x256x2048 .f32)

/-- After a slot is written whole, it reads as what was written; -/
theorem read_slot_own (i : ℕ) (inb : ∀ a, (![i, 0, 0] : Fin 3 → ℕ) a + S1x256x2048.size a ≤ S8x256x2048.size a) (inb') (hr) (hr') (hq) (hq')
    (f : M.view.ty.Contents Val) (w : S256x2048.Idx → Val .f32) :
    ((M.slice (Rect.unit (s := S8x256x2048) ![i, 0, 0] S1x256x2048.size inb) hr).squeeze S256x2048 hq).view.read Val
        (((M.slice (Rect.unit (s := S8x256x2048) ![i, 0, 0] S1x256x2048.size inb') hr').squeeze S256x2048 hq').view.write Val f w Finset.univ)
      = w :=
  View.read_write_univ (v := ((M.slice (Rect.unit (s := S8x256x2048) ![i, 0, 0] S1x256x2048.size inb) hr).squeeze S256x2048 hq).view) f w

/-- the other slots read as before. -/
theorem read_slot_other (i j : ℕ) (hij : i ≠ j) (inb : ∀ a, (![i, 0, 0] : Fin 3 → ℕ) a + S1x256x2048.size a ≤ S8x256x2048.size a)
    (inb' : ∀ a, (![j, 0, 0] : Fin 3 → ℕ) a + S1x256x2048.size a ≤ S8x256x2048.size a) (hr) (hr') (hq) (hq')
    (f : M.view.ty.Contents Val) (w : S256x2048.Idx → Val .f32) :
    ((M.slice (Rect.unit (s := S8x256x2048) ![i, 0, 0] S1x256x2048.size inb) hr).squeeze S256x2048 hq).view.read Val
        (((M.slice (Rect.unit (s := S8x256x2048) ![j, 0, 0] S1x256x2048.size inb') hr').squeeze S256x2048 hq').view.write Val f w Finset.univ)
      = ((M.slice (Rect.unit (s := S8x256x2048) ![i, 0, 0] S1x256x2048.size inb) hr).squeeze S256x2048 hq).view.read Val f := by
  funext y
  apply View.read_congr_at
  apply View.write_of_not_mem
  intro hm
  obtain ⟨x, _, hx⟩ := Finset.mem_map.mp hm
  have h := M.view.emb.injective (show M.view.emb ((Rect.unit (s := S8x256x2048) ![j, 0, 0] S1x256x2048.size inb').emb (Shape.reshapeEquiv hq'.numel_eq x))
    = M.view.emb ((Rect.unit (s := S8x256x2048) ![i, 0, 0] S1x256x2048.size inb).emb (Shape.reshapeEquiv hq.numel_eq y)) from hx)
  have h0 := congrArg (fun k : S8x256x2048.Idx => (k 0 : ℕ)) h
  simp only [Rect.emb_apply] at h0
  have hx1 : (Shape.reshapeEquiv hq'.numel_eq x 0 : ℕ) < 1 := (Shape.reshapeEquiv hq'.numel_eq x 0).isLt
  have hy1 : (Shape.reshapeEquiv hq.numel_eq y 0 : ℕ) < 1 := (Shape.reshapeEquiv hq.numel_eq y 0).isLt
  have h4 : j + 1 * (Shape.reshapeEquiv hq'.numel_eq x 0 : ℕ) = i + 1 * (Shape.reshapeEquiv hq.numel_eq y 0 : ℕ) := h0
  exact hij (by omega)

/-- A load of the slot through the whole buffer is what the slot reads, with a leading unit axis. -/
theorem load_slot (i : ℕ) (inb : ∀ a, (![i, 0, 0] : Fin 3 → ℕ) a + S1x256x2048.size a ≤ S8x256x2048.size a) (hr) (hq)
    (f : M.view.ty.Contents Val) (w : S256x2048.Idx → Val .f32)
    (h : ((M.slice (Rect.unit (s := S8x256x2048) ![i, 0, 0] S1x256x2048.size inb) hr).squeeze S256x2048 hq).view.read Val f = w) :
    M.view.readAt Val (Rect.unit (s := S8x256x2048) ![i, 0, 0] S1x256x2048.size inb).toLoadRect f = shapeCast S1x256x2048 w (by decide) := by
  subst h
  rw [Memref.read_squeeze_slice M (Rect.unit (s := S8x256x2048) ![i, 0, 0] S1x256x2048.size inb) hr hq shapeCasts_S1x256x2048_S256x2048]
  exact (shapeCast_shapeCast _ _ _).symm

/-- Slot `i` of a buffer. -/
abbrev slotOf (i : ℕ) (inb : ∀ a, (![i, 0, 0] : Fin 3 → ℕ) a + S1x256x2048.size a ≤ S8x256x2048.size a) : Memref sig .tc .vmem S256x2048 .f32 :=
  (M.slice (Rect.unit (s := S8x256x2048) ![i, 0, 0] S1x256x2048.size inb) (fun _ => rfl)).squeeze S256x2048 squeezes_S1x256x2048_S256x2048

/-- The buffer once its eight slots are written. -/
def filled (f : M.view.ty.Contents Val) (D : Fin 8 → S256x2048.Idx → Val .f32) : M.view.ty.Contents Val :=
  (slotOf M 7 inb_S8x256x2048_S1x256x2048_7_0_0).view.write Val (
   (slotOf M 6 inb_S8x256x2048_S1x256x2048_6_0_0).view.write Val (
    (slotOf M 5 inb_S8x256x2048_S1x256x2048_5_0_0).view.write Val (
     (slotOf M 4 inb_S8x256x2048_S1x256x2048_4_0_0).view.write Val (
      (slotOf M 3 inb_S8x256x2048_S1x256x2048_3_0_0).view.write Val (
       (slotOf M 2 inb_S8x256x2048_S1x256x2048_2_0_0).view.write Val (
        (slotOf M 1 inb_S8x256x2048_S1x256x2048_1_0_0).view.write Val (
         (slotOf M 0 inb_S8x256x2048_S1x256x2048_0_0_0).view.write Val f (D 0) Finset.univ) (D 1) Finset.univ) (D 2) Finset.univ) (D 3) Finset.univ) (D 4) Finset.univ) (D 5) Finset.univ) (D 6) Finset.univ) (D 7) Finset.univ

/-- Each of its slots loads as what was written there. -/
theorem load_filled (f : M.view.ty.Contents Val) (D : Fin 8 → S256x2048.Idx → Val .f32) (i : Fin 8) (inb) :
    M.view.readAt Val (Rect.unit (s := S8x256x2048) ![i.val, 0, 0] S1x256x2048.size inb).toLoadRect (filled M f D)
      = shapeCast S1x256x2048 (D i) (by decide) := by
  refine load_slot M i.val inb (fun _ => rfl) squeezes_S1x256x2048_S256x2048 _ _ ?_
  unfold filled
  match i with
  | ⟨0, _⟩ =>
    refine (read_slot_other M 0 7 (by decide) _ _ _ _ _ _ _ _).trans ?_
    refine (read_slot_other M 0 6 (by decide) _ _ _ _ _ _ _ _).trans ?_
    refine (read_slot_other M 0 5 (by decide) _ _ _ _ _ _ _ _).trans ?_
    refine (read_slot_other M 0 4 (by decide) _ _ _ _ _ _ _ _).trans ?_
    refine (read_slot_other M 0 3 (by decide) _ _ _ _ _ _ _ _).trans ?_
    refine (read_slot_other M 0 2 (by decide) _ _ _ _ _ _ _ _).trans ?_
    refine (read_slot_other M 0 1 (by decide) _ _ _ _ _ _ _ _).trans ?_
    exact read_slot_own M 0 _ _ _ _ _ _ _ _
  | ⟨1, _⟩ =>
    refine (read_slot_other M 1 7 (by decide) _ _ _ _ _ _ _ _).trans ?_
    refine (read_slot_other M 1 6 (by decide) _ _ _ _ _ _ _ _).trans ?_
    refine (read_slot_other M 1 5 (by decide) _ _ _ _ _ _ _ _).trans ?_
    refine (read_slot_other M 1 4 (by decide) _ _ _ _ _ _ _ _).trans ?_
    refine (read_slot_other M 1 3 (by decide) _ _ _ _ _ _ _ _).trans ?_
    refine (read_slot_other M 1 2 (by decide) _ _ _ _ _ _ _ _).trans ?_
    exact read_slot_own M 1 _ _ _ _ _ _ _ _
  | ⟨2, _⟩ =>
    refine (read_slot_other M 2 7 (by decide) _ _ _ _ _ _ _ _).trans ?_
    refine (read_slot_other M 2 6 (by decide) _ _ _ _ _ _ _ _).trans ?_
    refine (read_slot_other M 2 5 (by decide) _ _ _ _ _ _ _ _).trans ?_
    refine (read_slot_other M 2 4 (by decide) _ _ _ _ _ _ _ _).trans ?_
    refine (read_slot_other M 2 3 (by decide) _ _ _ _ _ _ _ _).trans ?_
    exact read_slot_own M 2 _ _ _ _ _ _ _ _
  | ⟨3, _⟩ =>
    refine (read_slot_other M 3 7 (by decide) _ _ _ _ _ _ _ _).trans ?_
    refine (read_slot_other M 3 6 (by decide) _ _ _ _ _ _ _ _).trans ?_
    refine (read_slot_other M 3 5 (by decide) _ _ _ _ _ _ _ _).trans ?_
    refine (read_slot_other M 3 4 (by decide) _ _ _ _ _ _ _ _).trans ?_
    exact read_slot_own M 3 _ _ _ _ _ _ _ _
  | ⟨4, _⟩ =>
    refine (read_slot_other M 4 7 (by decide) _ _ _ _ _ _ _ _).trans ?_
    refine (read_slot_other M 4 6 (by decide) _ _ _ _ _ _ _ _).trans ?_
    refine (read_slot_other M 4 5 (by decide) _ _ _ _ _ _ _ _).trans ?_
    exact read_slot_own M 4 _ _ _ _ _ _ _ _
  | ⟨5, _⟩ =>
    refine (read_slot_other M 5 7 (by decide) _ _ _ _ _ _ _ _).trans ?_
    refine (read_slot_other M 5 6 (by decide) _ _ _ _ _ _ _ _).trans ?_
    exact read_slot_own M 5 _ _ _ _ _ _ _ _
  | ⟨6, _⟩ =>
    refine (read_slot_other M 6 7 (by decide) _ _ _ _ _ _ _ _).trans ?_
    exact read_slot_own M 6 _ _ _ _ _ _ _ _
  | ⟨7, _⟩ =>
    exact read_slot_own M 7 _ _ _ _ _ _ _ _

end Slots

/-- The value stored after the last block, as the program builds it block by block, is the partial result. -/
theorem stored_eq (x0 x1 x2 x3 x4 x5 x6 x7 y0 y1 y2 y3 y4 y5 y6 y7 : Vec F S1x256x2048 .f32) :
    k0_pay37
        (k0_pay35
          (k0_pay31
            (k0_pay27
              (k0_pay22
                (k0_pay17
                  (k0_pay12 (k0_pay7 k0_pay2 (k0_pay4 y0) (k0_pay5 x0) (k0_pay6 x0)) (k0_pay9 y1) (k0_pay10 x1) (k0_pay11 x1))
                  (k0_pay14 y2) (k0_pay15 x2) (k0_pay16 x2))
                (k0_pay19 x3) (k0_pay20 y3) (k0_pay21 x3))
              (k0_pay24 x4) (k0_pay25 y4) (k0_pay26 x4))
            (k0_pay29 x5) y5)
          (k0_pay33 x6) y6)
        (k0_pay36
          (k0_pay32 (k0_pay28 (k0_pay23 (k0_pay18 (k0_pay13 (k0_pay8 k0_pay3 (k0_pay4 y0)) (k0_pay9 y1)) (k0_pay14 y2)) (k0_pay20 y3)) (k0_pay25 y4)) y5)
          y6)
        x7 y7
      = partialOf ![x0, x1, x2, x3, x4, x5, x6, x7] ![y0, y1, y2, y3, y4, y5, y6, y7] := rfl

omit [FloatOps F] in
/-- What a copy reads out of an argument is the block. -/
theorem read_block (M : Memref sig .tc .hbm S4096x2048 .f32) (f : M.view.ty.Contents (Elt F)) (X : Vec F S4096x2048 .f32)
    (hf : M.view.read (Elt F) f = X) (c : Dev nD) (i : Fin 8) (off : Fin 2 → ℕ) (ho : off = ![2048 * (c.val / 2) + 256 * i.val, 0]) (inb) (hr) :
    (M.slice (Rect.unit (s := S4096x2048) off S256x2048.size inb) hr).view.read (Elt F) f = rowBlock X c i := by
  subst hf ho
  funext y
  show M.view.read (Elt F) f ((Rect.unit (s := S4096x2048) ![2048 * (c.val / 2) + 256 * i.val, 0] S256x2048.size inb).emb y) = _
  unfold rowBlock
  refine congrArg (M.view.read (Elt F) f) (funext fun a => Fin.ext ?_)
  rw [Rect.emb_apply]
  match a with
  | ⟨0, _⟩ => show 2048 * (c.val / 2) + 256 * i.val + 1 * (y 0).val = 2048 * (c.val / 2) + 256 * i.val + (y 0).val; omega
  | ⟨1, _⟩ => show 0 + 1 * (y 1).val = (y 1).val; omega

omit [FloatOps F] in
/-- What the eight copies out of an argument carry. -/
def carried (M : Memref sig .tc .hbm S4096x2048 .f32) (f : M.view.ty.Contents (Elt F)) (c : Dev nD) : Fin 8 → S256x2048.Idx → Elt F .f32 :=
  ![ReadAs.same.apply ((M.slice (Rect.unit (s := S4096x2048) (k0_off1 c 0#32) S256x2048.size (k0_off1_inb c 0)) (fun _ => rfl)).view.read (Elt F) f),
    ReadAs.same.apply ((M.slice (Rect.unit (s := S4096x2048) (k0_off1 c 256#32) S256x2048.size (k0_off1_inb c 1)) (fun _ => rfl)).view.read (Elt F) f),
    ReadAs.same.apply ((M.slice (Rect.unit (s := S4096x2048) (k0_off1 c 512#32) S256x2048.size (k0_off1_inb c 2)) (fun _ => rfl)).view.read (Elt F) f),
    ReadAs.same.apply ((M.slice (Rect.unit (s := S4096x2048) (k0_off1 c 768#32) S256x2048.size (k0_off1_inb c 3)) (fun _ => rfl)).view.read (Elt F) f),
    ReadAs.same.apply ((M.slice (Rect.unit (s := S4096x2048) (k0_off1 c 1024#32) S256x2048.size (k0_off1_inb c 4)) (fun _ => rfl)).view.read (Elt F) f),
    ReadAs.same.apply ((M.slice (Rect.unit (s := S4096x2048) (k0_off1 c 1280#32) S256x2048.size (k0_off1_inb c 5)) (fun _ => rfl)).view.read (Elt F) f),
    ReadAs.same.apply ((M.slice (Rect.unit (s := S4096x2048) (k0_off1 c 1536#32) S256x2048.size (k0_off1_inb c 6)) (fun _ => rfl)).view.read (Elt F) f),
    ReadAs.same.apply ((M.slice (Rect.unit (s := S4096x2048) (k0_off1 c 1792#32) S256x2048.size (k0_off1_inb c 7)) (fun _ => rfl)).view.read (Elt F) f)]

omit [FloatOps F] in
theorem carried_eq (M : Memref sig .tc .hbm S4096x2048 .f32) (f : M.view.ty.Contents (Elt F)) (X : Vec F S4096x2048 .f32)
    (hf : M.view.read (Elt F) f = X) (c : Dev nD) (i : Fin 8) : carried M f c i = rowBlock X c i := by
  match i with
  | ⟨0, _⟩ => exact read_block M f X hf c 0 _ (k0_off1_eq c 0) _ _
  | ⟨1, _⟩ => exact read_block M f X hf c 1 _ (k0_off1_eq c 1) _ _
  | ⟨2, _⟩ => exact read_block M f X hf c 2 _ (k0_off1_eq c 2) _ _
  | ⟨3, _⟩ => exact read_block M f X hf c 3 _ (k0_off1_eq c 3) _ _
  | ⟨4, _⟩ => exact read_block M f X hf c 4 _ (k0_off1_eq c 4) _ _
  | ⟨5, _⟩ => exact read_block M f X hf c 5 _ (k0_off1_eq c 5) _ _
  | ⟨6, _⟩ => exact read_block M f X hf c 6 _ (k0_off1_eq c 6) _ _
  | ⟨7, _⟩ => exact read_block M f X hf c 7 _ (k0_off1_eq c 7) _ _

omit [FloatOps F] in
/-- A slot's load once the eight copies have landed. -/
theorem load_carried (A : Memref sig .tc .hbm S4096x2048 .f32) (B : Memref sig .tc .vmem S8x256x2048 .f32) (X : A.view.ty.Contents (Elt F))
    (V : Vec F S4096x2048 .f32) (hX : A.view.read (Elt F) X = V) (f0 : B.view.ty.Contents (Elt F)) (c : Dev nD) (i : Fin 8) (inb) :
    B.view.readAt (Elt F) (Rect.unit (s := S8x256x2048) ![i.val, 0, 0] S1x256x2048.size inb).toLoadRect (filled B f0 (carried A X c)) = slotBlock V c i := by
  rw [load_filled, carried_eq A X V hX]; rfl

/-- The value stored after the last block is the device's partial result. -/
theorem stored_partial (A A' : Memref sig .tc .hbm S4096x2048 .f32) (B B' : Memref sig .tc .vmem S8x256x2048 .f32)
    (X : A.view.ty.Contents (Elt F)) (Y : A'.view.ty.Contents (Elt F)) (V V' : Vec F S4096x2048 .f32) (hX : A.view.read (Elt F) X = V)
    (hY : A'.view.read (Elt F) Y = V') (f0 : B.view.ty.Contents (Elt F)) (f1 : B'.view.ty.Contents (Elt F)) (c : Dev nD) :
    let x0 := (B.view.readAt (Elt F) (Rect.unit (s := S8x256x2048) ![0, 0, 0] S1x256x2048.size inb_S8x256x2048_S1x256x2048_0_0_0).toLoadRect (filled B f0 (carried A X c)))
    let x1 := (B.view.readAt (Elt F) (Rect.unit (s := S8x256x2048) ![1, 0, 0] S1x256x2048.size inb_S8x256x2048_S1x256x2048_1_0_0).toLoadRect (filled B f0 (carried A X c)))
    let x2 := (B.view.readAt (Elt F) (Rect.unit (s := S8x256x2048) ![2, 0, 0] S1x256x2048.size inb_S8x256x2048_S1x256x2048_2_0_0).toLoadRect (filled B f0 (carried A X c)))
    let x3 := (B.view.readAt (Elt F) (Rect.unit (s := S8x256x2048) ![3, 0, 0] S1x256x2048.size inb_S8x256x2048_S1x256x2048_3_0_0).toLoadRect (filled B f0 (carried A X c)))
    let x4 := (B.view.readAt (Elt F) (Rect.unit (s := S8x256x2048) ![4, 0, 0] S1x256x2048.size inb_S8x256x2048_S1x256x2048_4_0_0).toLoadRect (filled B f0 (carried A X c)))
    let x5 := (B.view.readAt (Elt F) (Rect.unit (s := S8x256x2048) ![5, 0, 0] S1x256x2048.size inb_S8x256x2048_S1x256x2048_5_0_0).toLoadRect (filled B f0 (carried A X c)))
    let x6 := (B.view.readAt (Elt F) (Rect.unit (s := S8x256x2048) ![6, 0, 0] S1x256x2048.size inb_S8x256x2048_S1x256x2048_6_0_0).toLoadRect (filled B f0 (carried A X c)))
    let x7 := (B.view.readAt (Elt F) (Rect.unit (s := S8x256x2048) ![7, 0, 0] S1x256x2048.size inb_S8x256x2048_S1x256x2048_7_0_0).toLoadRect (filled B f0 (carried A X c)))
    let y0 := (B'.view.readAt (Elt F) (Rect.unit (s := S8x256x2048) ![0, 0, 0] S1x256x2048.size inb_S8x256x2048_S1x256x2048_0_0_0).toLoadRect (filled B' f1 (carried A' Y c)))
    let y1 := (B'.view.readAt (Elt F) (Rect.unit (s := S8x256x2048) ![1, 0, 0] S1x256x2048.size inb_S8x256x2048_S1x256x2048_1_0_0).toLoadRect (filled B' f1 (carried A' Y c)))
    let y2 := (B'.view.readAt (Elt F) (Rect.unit (s := S8x256x2048) ![2, 0, 0] S1x256x2048.size inb_S8x256x2048_S1x256x2048_2_0_0).toLoadRect (filled B' f1 (carried A' Y c)))
    let y3 := (B'.view.readAt (Elt F) (Rect.unit (s := S8x256x2048) ![3, 0, 0] S1x256x2048.size inb_S8x256x2048_S1x256x2048_3_0_0).toLoadRect (filled B' f1 (carried A' Y c)))
    let y4 := (B'.view.readAt (Elt F) (Rect.unit (s := S8x256x2048) ![4, 0, 0] S1x256x2048.size inb_S8x256x2048_S1x256x2048_4_0_0).toLoadRect (filled B' f1 (carried A' Y c)))
    let y5 := (B'.view.readAt (Elt F) (Rect.unit (s := S8x256x2048) ![5, 0, 0] S1x256x2048.size inb_S8x256x2048_S1x256x2048_5_0_0).toLoadRect (filled B' f1 (carried A' Y c)))
    let y6 := (B'.view.readAt (Elt F) (Rect.unit (s := S8x256x2048) ![6, 0, 0] S1x256x2048.size inb_S8x256x2048_S1x256x2048_6_0_0).toLoadRect (filled B' f1 (carried A' Y c)))
    let y7 := (B'.view.readAt (Elt F) (Rect.unit (s := S8x256x2048) ![7, 0, 0] S1x256x2048.size inb_S8x256x2048_S1x256x2048_7_0_0).toLoadRect (filled B' f1 (carried A' Y c)))
    k0_pay37
        (k0_pay35
          (k0_pay31
            (k0_pay27
              (k0_pay22
                (k0_pay17
                  (k0_pay12 (k0_pay7 k0_pay2 (k0_pay4 y0) (k0_pay5 x0) (k0_pay6 x0)) (k0_pay9 y1) (k0_pay10 x1) (k0_pay11 x1))
                  (k0_pay14 y2) (k0_pay15 x2) (k0_pay16 x2))
                (k0_pay19 x3) (k0_pay20 y3) (k0_pay21 x3))
              (k0_pay24 x4) (k0_pay25 y4) (k0_pay26 x4))
            (k0_pay29 x5) y5)
          (k0_pay33 x6) y6)
        (k0_pay36
          (k0_pay32 (k0_pay28 (k0_pay23 (k0_pay18 (k0_pay13 (k0_pay8 k0_pay3 (k0_pay4 y0)) (k0_pay9 y1)) (k0_pay14 y2)) (k0_pay20 y3)) (k0_pay25 y4)) y5)
          y6)
        x7 y7
      = partialAt V V' c := by
  intro x0 x1 x2 x3 x4 x5 x6 x7 y0 y1 y2 y3 y4 y5 y6 y7
  rw [stored_eq]
  unfold partialAt
  refine congrArg₂ partialOf (funext fun i => ?_) (funext fun i => ?_)
  · match i with
    | ⟨0, _⟩ => exact load_carried A B X V hX f0 c 0 _
    | ⟨1, _⟩ => exact load_carried A B X V hX f0 c 1 _
    | ⟨2, _⟩ => exact load_carried A B X V hX f0 c 2 _
    | ⟨3, _⟩ => exact load_carried A B X V hX f0 c 3 _
    | ⟨4, _⟩ => exact load_carried A B X V hX f0 c 4 _
    | ⟨5, _⟩ => exact load_carried A B X V hX f0 c 5 _
    | ⟨6, _⟩ => exact load_carried A B X V hX f0 c 6 _
    | ⟨7, _⟩ => exact load_carried A B X V hX f0 c 7 _
  · match i with
    | ⟨0, _⟩ => exact load_carried A' B' Y V' hY f1 c 0 _
    | ⟨1, _⟩ => exact load_carried A' B' Y V' hY f1 c 1 _
    | ⟨2, _⟩ => exact load_carried A' B' Y V' hY f1 c 2 _
    | ⟨3, _⟩ => exact load_carried A' B' Y V' hY f1 c 3 _
    | ⟨4, _⟩ => exact load_carried A' B' Y V' hY f1 c 4 _
    | ⟨5, _⟩ => exact load_carried A' B' Y V' hY f1 c 5 _
    | ⟨6, _⟩ => exact load_carried A' B' Y V' hY f1 c 6 _
    | ⟨7, _⟩ => exact load_carried A' B' Y V' hY f1 c 7 _

end Cert.KernelIdealRun
-- ==== Proof.IdealBody.lean ====
/-
The body of the kernel on one device, executed once for a symbolic device: the sixteen local copies, the three barrier
signals, the eight blocks, the exchange with the three peers, the sum.
-/
module

public import proofs.«01_k».proof.Proof.IdealBlocks

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg) (P : Dev nD → Vec F S2x2048 .f32)

abbrev 𝒱₀ : Variants := Variants.none

/-- The sixteen semaphores of the local copies, at zero. -/
def localSems (c : Dev nD) : sProp 𝕄 :=
  iprop(semVal ((c : Thread nD τ), (.dma ⟨1, by decide⟩ : SemLoc sig)) 0
    ∗ semVal ((c : Thread nD τ), (.dma ⟨2, by decide⟩ : SemLoc sig)) 0
    ∗ semVal ((c : Thread nD τ), (.dma ⟨3, by decide⟩ : SemLoc sig)) 0
    ∗ semVal ((c : Thread nD τ), (.dma ⟨4, by decide⟩ : SemLoc sig)) 0
    ∗ semVal ((c : Thread nD τ), (.dma ⟨5, by decide⟩ : SemLoc sig)) 0
    ∗ semVal ((c : Thread nD τ), (.dma ⟨6, by decide⟩ : SemLoc sig)) 0
    ∗ semVal ((c : Thread nD τ), (.dma ⟨7, by decide⟩ : SemLoc sig)) 0
    ∗ semVal ((c : Thread nD τ), (.dma ⟨8, by decide⟩ : SemLoc sig)) 0
    ∗ semVal ((c : Thread nD τ), (.dma ⟨9, by decide⟩ : SemLoc sig)) 0
    ∗ semVal ((c : Thread nD τ), (.dma ⟨10, by decide⟩ : SemLoc sig)) 0
    ∗ semVal ((c : Thread nD τ), (.dma ⟨11, by decide⟩ : SemLoc sig)) 0
    ∗ semVal ((c : Thread nD τ), (.dma ⟨12, by decide⟩ : SemLoc sig)) 0
    ∗ semVal ((c : Thread nD τ), (.dma ⟨13, by decide⟩ : SemLoc sig)) 0
    ∗ semVal ((c : Thread nD τ), (.dma ⟨14, by decide⟩ : SemLoc sig)) 0
    ∗ semVal ((c : Thread nD τ), (.dma ⟨15, by decide⟩ : SemLoc sig)) 0
    ∗ semVal ((c : Thread nD τ), (.dma ⟨16, by decide⟩ : SemLoc sig)) 0)

abbrev xM : Memref sig .tc .hbm S4096x2048 .f32 := Memref.whole main_arg0
abbrev dyM : Memref sig .tc .hbm S4096x2048 .f32 := Memref.whole main_arg1
abbrev xbM : Memref sig .tc .vmem S8x256x2048 .f32 := Memref.whole cc0_scratch0
abbrev dybM : Memref sig .tc .vmem S8x256x2048 .f32 := Memref.whole cc0_scratch1

section Body

variable (K : Dev nD × Fin 7 → ℕ)

/-- The invariants device `c`'s body opens: its own seven cells', its peers' barrier and receive cells'. -/
def invs (c : Dev nD) : sProp 𝕄 :=
  iprop(cellInv ER (sched P) (K (c, 0)) (barCell c)
    ∗ cellInv ER (sched P) (K (c, 1)) (sendCell 0 c) ∗ cellInv ER (sched P) (K (c, 2)) (sendCell 1 c) ∗ cellInv ER (sched P) (K (c, 3)) (sendCell 2 c)
    ∗ cellInv ER (sched P) (K (c, 4)) (recvCell 0 c) ∗ cellInv ER (sched P) (K (c, 5)) (recvCell 1 c) ∗ cellInv ER (sched P) (K (c, 6)) (recvCell 2 c)
    ∗ cellInv ER (sched P) (K (peer 0 c, 0)) (barCell (peer 0 c)) ∗ cellInv ER (sched P) (K (peer 1 c, 0)) (barCell (peer 1 c))
    ∗ cellInv ER (sched P) (K (peer 2 c, 0)) (barCell (peer 2 c))
    ∗ cellInv ER (sched P) (K (peer 0 c, 4)) (recvCell 0 (peer 0 c)) ∗ cellInv ER (sched P) (K (peer 1 c, 5)) (recvCell 1 (peer 1 c))
    ∗ cellInv ER (sched P) (K (peer 2 c, 6)) (recvCell 2 (peer 2 c)))

instance invs_persistent (c : Dev nD) : BI.Persistent (invs P K c) := by unfold invs; infer_instance

/-- What device `c` has of the exchange at the start: the invariants; its positions; the marks of the cells it pays and
    of its own; the tokens it pays with. -/
def ghost (c : Dev nD) : sProp 𝕄 :=
  iprop(invs P K c
    ∗ (atPos ER (barCell c) 0 ∅ 0
      ∗ (atPos ER (sendCell 0 c) 0 ∅ 0 ∗ atPos ER (sendCell 1 c) 0 ∅ 0 ∗ atPos ER (sendCell 2 c) 0 ∅ 0)
      ∗ (atPos ER (recvCell 0 c) 0 ∅ 0 ∗ atPos ER (recvCell 1 c) 0 ∅ 0 ∗ atPos ER (recvCell 2 c) 0 ∅ 0))
    ∗ (reached ER (barCell (peer 0 c)) 0 ∗ reached ER (barCell (peer 1 c)) 0 ∗ reached ER (barCell (peer 2 c)) 0)
    ∗ (reached ER (sendCell 0 c) 0 ∗ reached ER (sendCell 1 c) 0 ∗ reached ER (sendCell 2 c) 0)
    ∗ (reached ER (recvCell 0 c) 0 ∗ reached ER (recvCell 1 c) 0 ∗ reached ER (recvCell 2 c) 0)
    ∗ (dutyTok ER (barCell (peer 0 c)) 0 0 ∗ dutyTok ER (barCell (peer 1 c)) 0 1 ∗ dutyTok ER (barCell (peer 2 c)) 0 2)
    ∗ (dutyTok ER (sendCell 0 c) 0 0 ∗ dutyTok ER (sendCell 1 c) 0 0 ∗ dutyTok ER (sendCell 2 c) 0 0)
    ∗ (dutyTok ER (recvCell 0 (peer 0 c)) 0 0 ∗ dutyTok ER (recvCell 1 (peer 1 c)) 0 0 ∗ dutyTok ER (recvCell 2 (peer 2 c)) 0 0))

/-- Its credits: the three units of its barrier, one copy's credit at each of its receive cells. -/
def creds (c : Dev nD) : sProp 𝕄 :=
  iprop(cred (tallyAt (barCell c) true 3) ∗ cred (tallyAt (recvCell 0 c) true N) ∗ cred (tallyAt (recvCell 1 c) true N)
    ∗ cred (tallyAt (recvCell 2 c) true N))

/-- The signal to peer `k`: it hands the peer landing slot `k` and the mark of the receive cell `k`, and pays one unit of
    what is owed. -/
theorem wp_signal_peer (k : Fin 3) (c n : Dev nD) (hn : n = peer k c) {κ : ℕ} {k' : ℕ} (hk : 1 = k') (O : CellTallies nD τ sig Bool)
    {W : Waits sig Bool} {α : Type} {Q : α → sProp 𝕄} {kk : PUnit → Prog (TpuEff nD τ sig (Elt F) Λ₀ .tc) α} (g) :
    iprop(cellInv ER (sched P) κ (barCell (peer k c)) ∗ owes (c : Thread nD τ) (O + tallyAt (barCell (peer k c)) true 1) W
        ∗ dutyTok ER (barCell (peer k c)) 0 k ∗ slotPts k c g ∗ reached ER (recvCell k c) 0 ∗ reached ER (barCell (peer k c)) 0)
      ⊢ iprop((owes (c : Thread nD τ) O W -∗ wp frame (wpE (defs₀ (F := F)) Variants.none (c : Thread nD τ) none) Set.univ (kk ⟨⟩) Q)
          -∗ wp frame (wpE (defs₀ (F := F)) Variants.none (c : Thread nD τ) none) Set.univ
              (.op (.semSignal (n : Thread nD τ) barS k') kk) Q) := by
  subst hn hk
  iintro ⟨#HI, HO, Ht, Hg, #Hr, #HrB⟩
  iapply (Rounds.wp_signal 𝒱₀ ER (sched P) (c : Thread nD τ) none (dst := (peer k c : Thread nD τ)) (κ := κ)
      (d := k) (by rw [duties_bar]; exact Finset.mem_univ _) (amount_bar P (peer k c) k) true O rfl) $$ [HO Ht Hg]
  isplitr; · iexact HI
  isplitl [HO]; · iexact HO
  isplitl [Ht]; · iexact Ht
  isplitl [Hg]
  · rw [payload_bar]; unfold barPay; rw [peer_peer]
    isplitl [Hg]; · iexists g; iexact Hg
    iexact Hr
  iexact HrB

/-- The copy of the partial result to peer `k`: a share of the staging buffer goes under the copy, the peer's slot `k`
    will hold the partial result. -/
theorem wp_send_peer (k : Fin 3) (c n : Dev nD) (hn : n = peer k c) {κ₁ κ₂ : ℕ} {O₀ : CellTallies nD τ sig Bool} (O : CellTallies nD τ sig Bool)
    (hO : O₀ = O + tallyAt (recvCell k (peer k c)) true N) {hsc : (slotM k : Memref sig (Dev.tc n : Thread nD τ).2.kind .vmem S2x2048 .f32).view.ref.isScScratch = false}
    {hsrc : oM.view.WordExact} {hdst : (slotM k).view.WordExact}
    {hsem : DmaTarget.Typed .vmem (.dma (recvS k)) (.remote (Dev.tc n : Thread nD τ) (slotM k : Memref sig .tc .vmem S2x2048 .f32) (.dma (sendS k)) hsc)}
    {W : Waits sig Bool} {α : Type} {Q : α → sProp 𝕄} {kk : PUnit → Prog (TpuEff nD τ sig (Elt F) Λ₀ .tc) α} (g) :
    iprop(cellInv ER (sched P) κ₁ (sendCell k c) ∗ cellInv ER (sched P) κ₂ (recvCell k (peer k c))
        ∗ outPts P k c ∗ slotPts k (peer k c) g ∗ owes (c : Thread nD τ) O₀ W
        ∗ dutyTok ER (sendCell k c) 0 0 ∗ reached ER (sendCell k c) 0
        ∗ dutyTok ER (recvCell k (peer k c)) 0 0 ∗ reached ER (recvCell k (peer k c)) 0)
      ⊢ iprop(((cred (tallyAt (sendCell k c) true N) ∗ owes (c : Thread nD τ) O W)
            -∗ wp frame (wpE (defs₀ (F := F)) Variants.none (c : Thread nD τ) none) Set.univ (kk ⟨⟩) Q)
          -∗ wp frame (wpE (defs₀ (F := F)) Variants.none (c : Thread nD τ) none) Set.univ
              (.op (.enqueueDma oM (.remote (Dev.tc n : Thread nD τ) (slotM k) (.dma (sendS k)) hsc) (.dma (recvS k)) hsrc hdst hsem) kk) Q) := by
  subst hn
  unfold outPts slotPts
  exact Rounds.wp_send_pointsTo 𝒱₀ ER (sched P) (c : Thread nD τ) none (κ₁ := κ₁) (κ₂ := κ₂)
    (r₁ := 0) (r₂ := 0) (d₁ := (0 : Fin 3)) (d₂ := (0 : Fin 3)) (fd := g)
    (by rw [duties_send]; exact Finset.mem_singleton_self _) (by rw [duties_recv]; exact Finset.mem_singleton_self _)
    true true N (by exact slot_credit k) (amount_send P c k 0) (amount_recv P (peer k c) k 0) O hO (W := W)
    (by rw [payload_send]; exact BI.Entails.refl _)
    (by
      rw [payload_recv]; unfold recvPay slotPts; rw [peer_peer]
      iintro H
      iexists _
      isplitr
      · ipureintro; exact View.read_write_univ (v := (slotM k).view) g _
      iexact H)

omit [FloatOps F] in
/-- The staging buffer's whole share is the three shares of the copies. -/
theorem out_shares (c : Dev nD) :
    (oM.view.loc (c : Thread nD τ) ↦[oM.view.set]{fullShare} (P c) : sProp 𝕄) ⊣⊢ iprop(outPts P 0 c ∗ outPts P 1 c ∗ outPts P 2 c) := by
  unfold outPts
  refine (pointsTo_share (PosShare.mem_left_op_right fullShare)).trans ?_
  exact ⟨sep_mono_right (pointsTo_share (PosShare.mem_left_op_right fullShare.right)).1, sep_mono_right (pointsTo_share (PosShare.mem_left_op_right fullShare.right)).2⟩

/-- What device `c` ends with: its own partial result and its peers'. -/
def resultAt (c : Dev nD) : Vec F S2x2048 .f32 :=
  k0_pay1 (P c) (shapeCast S1x2x2048 (P (peer 0 c)) (by decide)) (shapeCast S1x2x2048 (P (peer 1 c)) (by decide))
    (shapeCast S1x2x2048 (P (peer 2 c)) (by decide))

omit [FloatOps F] in
/-- A store of the whole staging buffer leaves what was stored. -/
theorem out_stored (fo v : Vec F S2x2048 .f32) :
    oM.view.writes (Elt F) fo [⟨Rect.unit (s := S2x2048) ![0, 0] S2x2048.size inb_S2x2048_S2x2048_0_0, v⟩] = v :=
  Memref.write_access_unit_zero_univ (Elt F) cc0_stg0_0 (by decide) inb_S2x2048_S2x2048_0_0 _ _

omit [FloatOps F] in
theorem all_send (c : Dev nD) (k : Fin 3) :
    bigSep ((sched (F := F) P).duties (sendCell k c) 0) (fun d => (sched (F := F) P).payload (sendCell k c) 0 d) = sendPay P k c := by
  rw [duties_send, bigSep_singleton, payload_send]
omit [FloatOps F] in
theorem all_recv (c : Dev nD) (k : Fin 3) :
    bigSep ((sched (F := F) P).duties (recvCell k c) 0) (fun d => (sched (F := F) P).payload (recvCell k c) 0 d) = recvPay P k c := by
  rw [duties_recv, bigSep_singleton, payload_recv]

omit [FloatOps F] in
/-- A load of a landing slot is the peer's partial result, with a leading unit axis. -/
theorem load_landed (i : ℕ) (inb : ∀ a, (![i, 0, 0] : Fin 3 → ℕ) a + S1x2x2048.size a ≤ S3x2x2048.size a) (hr) (hq)
    (s : cM.view.ty.Contents (Elt F)) (w : Vec F S2x2048 .f32)
    (h : ((cM.slice (Rect.unit (s := S3x2x2048) ![i, 0, 0] S1x2x2048.size inb) hr).squeeze S2x2048 hq).view.read (Elt F) s = w) :
    cM.view.readAt (Elt F) (Rect.unit (s := S3x2x2048) ![i, 0, 0] S1x2x2048.size inb).toLoadRect s = shapeCast S1x2x2048 w (by decide) := by
  subst h
  rw [Memref.read_squeeze_slice cM (Rect.unit (s := S3x2x2048) ![i, 0, 0] S1x2x2048.size inb) hr hq shapeCasts_S1x2x2048_S2x2048]
  exact (shapeCast_shapeCast _ _ _).symm

/-- The last store: the device's partial result and the three that landed, added. -/
theorem sum_stored (c : Dev nD) (s0 s1 s2 : cM.view.ty.Contents (Elt F)) (h0 : (slotM 0).view.read (Elt F) s0 = P (peer 0 c))
    (h1 : (slotM 1).view.read (Elt F) s1 = P (peer 1 c)) (h2 : (slotM 2).view.read (Elt F) s2 = P (peer 2 c)) :
    oM.view.writes (Elt F) (P c) [⟨Rect.unit (s := S2x2048) ![0, 0] S2x2048.size inb_S2x2048_S2x2048_0_0,
      k0_pay1 (oM.view.readAt (Elt F) (Rect.unit (s := S2x2048) ![0, 0] S2x2048.size inb_S2x2048_S2x2048_0_0).toLoadRect (P c))
        (cM.view.readAt (Elt F) (Rect.unit (s := S3x2x2048) ![0, 0, 0] S1x2x2048.size inb_S3x2x2048_S1x2x2048_0_0_0).toLoadRect s0)
        (cM.view.readAt (Elt F) (Rect.unit (s := S3x2x2048) ![1, 0, 0] S1x2x2048.size inb_S3x2x2048_S1x2x2048_1_0_0).toLoadRect s1)
        (cM.view.readAt (Elt F) (Rect.unit (s := S3x2x2048) ![2, 0, 0] S1x2x2048.size inb_S3x2x2048_S1x2x2048_2_0_0).toLoadRect s2)⟩]
      = resultAt P c := by
  rw [out_stored, load_landed 0 _ (fun _ => rfl) squeezes_S1x2x2048_S2x2048 s0 _ h0, load_landed 1 _ (fun _ => rfl) squeezes_S1x2x2048_S2x2048 s1 _ h1, load_landed 2 _ (fun _ => rfl) squeezes_S1x2x2048_S2x2048 s2 _ h2,
    show oM.view.readAt (Elt F) (Rect.unit (s := S2x2048) ![0, 0] S2x2048.size inb_S2x2048_S2x2048_0_0).toLoadRect (P c) = P c from
      Memref.readAt_unit_zero (Elt F) cc0_stg0_0 (by decide) _ _]
  rfl

/-- What the body ends with: the arguments as they were, the buffers at some contents, every semaphore at zero, nothing
    owed, and the result in the staging buffer. -/
def bodyEnd (c : Dev nD) (X0 : Buf (Elt F) ((c : Thread nD τ).loc main_arg0)) (X1 : Buf (Elt F) ((c : Thread nD τ).loc main_arg1)) : sProp 𝕄 :=
  iprop((xM.view.loc (c : Thread nD τ) ↦[xM.view.set]{fullShare} X0) ∗ (dyM.view.loc (c : Thread nD τ) ↦[dyM.view.set]{fullShare} X1)
     ∗ (∃ f, xbM.view.loc (c : Thread nD τ) ↦[Finset.univ]{fullShare} f) ∗ (∃ f, dybM.view.loc (c : Thread nD τ) ↦[Finset.univ]{fullShare} f)
     ∗ (∃ f, slotPts 0 c f) ∗ (∃ f, slotPts 1 c f) ∗ (∃ f, slotPts 2 c f)
     ∗ localSems c
     ∗ (semVal (sendCell 0 c) 0 ∗ semVal (sendCell 1 c) 0 ∗ semVal (sendCell 2 c) 0
       ∗ semVal (recvCell 0 c) 0 ∗ semVal (recvCell 1 c) 0 ∗ semVal (recvCell 2 c) 0)
     ∗ semVal (barCell c) 0
     ∗ (∃ W, owes (c : Thread nD τ) 0 W)
     ∗ (oM.view.loc (c : Thread nD τ) ↦[oM.view.set]{fullShare} (resultAt P c)))

set_option maxHeartbeats 4000000 in
/-- The body, executed once: what the device holds at the start gives what it ends with. -/
theorem body_run (c : Dev nD) (W) (X0 : Buf (Elt F) ((c : Thread nD τ).loc main_arg0)) (X1 : Buf (Elt F) ((c : Thread nD τ).loc main_arg1))
   (f0 : Buf (Elt F) ((c : Thread nD τ).loc cc0_scratch0)) (f1 : Buf (Elt F) ((c : Thread nD τ).loc cc0_scratch1))
   (fo : Buf (Elt F) ((c : Thread nD τ).loc cc0_stg0_0)) (g0 g1 g2)
   (Kt : PUnit → sProp 𝕄) (hP : P c = partialAt X0 X1 c) :
   iprop(ghost P K c ∗ creds c ∗ levAts L lv ∗ localSems c
     ∗ (xM.view.loc (c : Thread nD τ) ↦[xM.view.set]{fullShare} X0) ∗ (dyM.view.loc (c : Thread nD τ) ↦[dyM.view.set]{fullShare} X1)
     ∗ (xbM.view.loc (c : Thread nD τ) ↦[Finset.univ]{fullShare} f0) ∗ (dybM.view.loc (c : Thread nD τ) ↦[Finset.univ]{fullShare} f1)
     ∗ slotPts 0 c g0 ∗ slotPts 1 c g1 ∗ slotPts 2 c g2
     ∗ (oM.view.loc (c : Thread nD τ) ↦[oM.view.set]{fullShare} fo)
     ∗ owes (c : Thread nD τ) (owedAll c) W ∗ (bodyEnd P c X0 X1 -∗ Kt ⟨⟩))
      ⊢ wp frame (wpE (defs₀ (F := F)) Variants.none (c : Thread nD τ) none) Set.univ
          (cc0_body xM (Memref.isWhole_whole _) dyM (Memref.isWhole_whole _)
            oM (Memref.isWhole_whole _) xbM (Memref.isWhole_whole _)
            dybM (Memref.isWhole_whole _) cM (Memref.isWhole_whole _)
            cc0_scratch3 cc0_scratch4 cc0_scratch5) Kt := by
  unfold ghost invs creds localSems
  iintro ⟨⟨⟨#HIb, #HIs0, #HIs1, #HIs2, #HIr0, #HIr1, #HIr2, #HIpb0, #HIpb1, #HIpb2, #HIpr0, #HIpr1, #HIpr2⟩,
      ⟨HaB, ⟨HaS0, HaS1, HaS2⟩, HaR0, HaR1, HaR2⟩, ⟨#HrB0, #HrB1, #HrB2⟩, ⟨#HrS0, #HrS1, #HrS2⟩, ⟨#HrR0, #HrR1, #HrR2⟩,
      ⟨HtB0, HtB1, HtB2⟩, ⟨HtS0, HtS1, HtS2⟩, HtR0, HtR1, HtR2⟩, ⟨HcB, HcR0, HcR1, HcR2⟩, #Hlev,
      ⟨S1, S2, S3, S4, S5, S6, S7, S8, S9, S10, S11, S12, S13, S14, S15, S16⟩, HX, HDY, HB0, HB1, Hg0, Hg1, Hg2, Ho, HO, Hk⟩
  rw [cc0_body_eq_skeleton]
  unfold cc0_body_skel
  set_option sl_exec.dmaWindow true in sl_exec
  iapply (wp_signal_peer P 0 c _ (dev1_eq c) (by decide) (owedRecv c + tallyAt (barCell (peer 2 c)) true 1 + tallyAt (barCell (peer 1 c)) true 1) g0) $$ [HO HtB0 Hg0]
  · isplitr; · iexact HIpb0
    isplitl [HO]; · iexact HO
    isplitl [HtB0]; · iexact HtB0
    isplitl [Hg0]; · iexact Hg0
    isplitr; · iexact HrR0
    iexact HrB0
  iintro HO
  sl_exec
  iapply (wp_signal_peer P 1 c _ (dev2_eq c) (by decide) (owedRecv c + tallyAt (barCell (peer 2 c)) true 1) g1) $$ [HO HtB1 Hg1]
  · isplitr; · iexact HIpb1
    isplitl [HO]; · iexact HO
    isplitl [HtB1]; · iexact HtB1
    isplitl [Hg1]; · iexact Hg1
    isplitr; · iexact HrR1
    iexact HrB1
  iintro HO
  sl_exec
  iapply (wp_signal_peer P 2 c _ (dev3_eq c) (by decide) (owedRecv c) g2) $$ [HO HtB2 Hg2]
  · isplitr; · iexact HIpb2
    isplitl [HO]; · iexact HO
    isplitl [HtB2]; · iexact HtB2
    isplitl [Hg2]; · iexact Hg2
    isplitr; · iexact HrR2
    iexact HrB2
  iintro HO
  ihave #Hmw := (Transfers.MayWaits.intro fun sm => mayWait_false (F := F) c sm (owedRecv c) (.inr (.inl rfl))) $$ Hlev
  set_option sl_exec.dmaWindow true in sl_exec
  -- the staging buffer holds the partial result
  have hst : k0_pay37 (body_run.sl.r_29 c X0 X1 f0 f1) (body_run.sl.r_30 c X1 f1) (body_run.sl.v406 c X0 f0) (body_run.sl.v408 c X1 f1) = P c :=
    (stored_partial xM dyM xbM dybM X0 X1 X0 X1 rfl rfl f0 f1 c).trans hP.symm
  rw [hst, out_stored]
  -- the barrier: the peers' landing slots
  iapply (Rounds.wp_wait_rest_token 𝒱₀ ER (sched P) (c : Thread nD τ) none (κ := K (c, 0))
      (wpE_semWait_eq 𝒱₀ (c : Thread nD τ) none Set.univ) (Set.mem_univ _) true (O := owedRecv c) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar P c)) $$ Hpay
  unfold barPay
  icases Hp with ⟨⟨⟨%n0, Hn0⟩, #Hq0⟩, ⟨⟨%n1, Hn1⟩, #Hq1⟩, ⟨%n2, Hn2⟩, #Hq2⟩
  icases ((out_shares P c).1) $$ Ho with ⟨Ho0, Ho1, Ho2⟩
  sl_exec
  -- the copy to peer 0
  iapply (wp_send_peer P 0 c _ (dev4_eq c) (κ₁ := K (c, 1)) (κ₂ := K (peer 0 c, 4)) (tallyAt (recvCell 2 (peer 2 c)) true N + tallyAt (recvCell 1 (peer 1 c)) true N) rfl n0) $$ [Ho0 Hn0 HO HtS0 HtR0]
  · isplitr; · iexact HIs0
    isplitr; · iexact HIpr0
    isplitl [Ho0]; · iexact Ho0
    isplitl [Hn0]; · iexact Hn0
    isplitl [HO]; · iexact HO
    isplitl [HtS0]; · iexact HtS0
    isplitr; · iexact HrS0
    isplitl [HtR0]; · iexact HtR0
    iexact Hq0
  iintro ⟨HcS0, HO⟩
  sl_exec
  -- the copy to peer 1
  iapply (wp_send_peer P 1 c _ (dev5_eq c) (κ₁ := K (c, 2)) (κ₂ := K (peer 1 c, 5)) (tallyAt (recvCell 2 (peer 2 c)) true N) rfl n1) $$ [Ho1 Hn1 HO HtS1 HtR1]
  · isplitr; · iexact HIs1
    isplitr; · iexact HIpr1
    isplitl [Ho1]; · iexact Ho1
    isplitl [Hn1]; · iexact Hn1
    isplitl [HO]; · iexact HO
    isplitl [HtS1]; · iexact HtS1
    isplitr; · iexact HrS1
    isplitl [HtR1]; · iexact HtR1
    iexact Hq1
  iintro ⟨HcS1, HO⟩
  sl_exec
  -- the copy to peer 2
  iapply (wp_send_peer P 2 c _ (dev6_eq c) (κ₁ := K (c, 3)) (κ₂ := K (peer 2 c, 6)) 0 (zero_add _).symm n2) $$ [Ho2 Hn2 HO HtS2 HtR2]
  · isplitr; · iexact HIs2
    isplitr; · iexact HIpr2
    isplitl [Ho2]; · iexact Ho2
    isplitl [Hn2]; · iexact Hn2
    isplitl [HO]; · iexact HO
    isplitl [HtS2]; · iexact HtS2
    isplitr; · iexact HrS2
    isplitl [HtR2]; · iexact HtR2
    iexact Hq2
  iintro ⟨HcS2, HO⟩
  -- the six waits: the staging buffer's shares come back, the peers' partial results are in the slots
  sl_exec
  ihave Ho0 := (Entails.of_eq (all_send P c 0)) $$ HaS0_pay1
  ihave Ho1 := (Entails.of_eq (all_send P c 1)) $$ HaS1_pay1
  ihave Ho2 := (Entails.of_eq (all_send P c 2)) $$ HaS2_pay1
  ihave Hp0 := (Entails.of_eq (all_recv P c 0)) $$ HaR0_pay1
  ihave Hp1 := (Entails.of_eq (all_recv P c 1)) $$ HaR1_pay1
  ihave Hp2 := (Entails.of_eq (all_recv P c 2)) $$ HaR2_pay1
  unfold recvPay sendPay
  icases Hp0 with ⟨%s0, %hs0, Hs0⟩
  icases Hp1 with ⟨%s1, %hs1, Hs1⟩
  icases Hp2 with ⟨%s2, %hs2, Hs2⟩
  ihave Ho := ((out_shares P c).2) $$ [Ho0 Ho1 Ho2]
  · isplitl [Ho0]; · iexact Ho0
    isplitl [Ho1]; · iexact Ho1
    iexact Ho2
  unfold slotPts
  sl_exec
  rw [sum_stored P c s0 s1 s2 hs0 hs1 hs2]
  -- the seven cells close at zero
  imod (Rounds.cell_close ER (sched P) (Set.mem_univ (K (c, 0))) (fun h => h) (R := 0 + 1) (duties_later P (barCell c))) $$ [HaB] with HzB
  · isplitr; · iexact HIb
    iexact HaB
  imod (Rounds.cell_close ER (sched P) (Set.mem_univ (K (c, 1))) (fun h => h) (R := 0 + 1) (duties_later P (sendCell 0 c))) $$ [HaS0] with HzS0
  · isplitr; · iexact HIs0
    iexact HaS0
  imod (Rounds.cell_close ER (sched P) (Set.mem_univ (K (c, 2))) (fun h => h) (R := 0 + 1) (duties_later P (sendCell 1 c))) $$ [HaS1] with HzS1
  · isplitr; · iexact HIs1
    iexact HaS1
  imod (Rounds.cell_close ER (sched P) (Set.mem_univ (K (c, 3))) (fun h => h) (R := 0 + 1) (duties_later P (sendCell 2 c))) $$ [HaS2] with HzS2
  · isplitr; · iexact HIs2
    iexact HaS2
  imod (Rounds.cell_close ER (sched P) (Set.mem_univ (K (c, 4))) (fun h => h) (R := 0 + 1) (duties_later P (recvCell 0 c))) $$ [HaR0] with HzR0
  · isplitr; · iexact HIr0
    iexact HaR0
  imod (Rounds.cell_close ER (sched P) (Set.mem_univ (K (c, 5))) (fun h => h) (R := 0 + 1) (duties_later P (recvCell 1 c))) $$ [HaR1] with HzR1
  · isplitr; · iexact HIr1
    iexact HaR1
  imod (Rounds.cell_close ER (sched P) (Set.mem_univ (K (c, 6))) (fun h => h) (R := 0 + 1) (duties_later P (recvCell 2 c))) $$ [HaR2] with HzR2
  · isplitr; · iexact HIr2
    iexact HaR2
  rw [wp_ret]; imodintro
  iapply Hk
  unfold bodyEnd localSems slotPts
  isplitl [HX]; · iexact HX
  isplitl [HDY]; · iexact HDY
  isplitl [HB0]; · iexists _; iexact HB0
  isplitl [HB1]; · iexists _; iexact HB1
  isplitl [Hs0]; · iexists s0; iexact Hs0
  isplitl [Hs1]; · iexists s1; iexact Hs1
  isplitl [Hs2]; · iexists s2; iexact Hs2
  isplitl [S1 S2 S3 S4 S5 S6 S7 S8 S9 S10 S11 S12 S13 S14 S15 S16]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact S16
  isplitl [HzS0 HzS1 HzS2 HzR0 HzR1 HzR2]
  · isplitl [HzS0]; · iexact HzS0
    isplitl [HzS1]; · iexact HzS1
    isplitl [HzS2]; · iexact HzS2
    isplitl [HzR0]; · iexact HzR0
    isplitl [HzR1]; · iexact HzR1
    iexact HzR2
  isplitl [HzB]; · iexact HzB
  isplitl [HO]; · iexists _; iexact HO
  iexact Ho

end Body
end Cert.KernelIdealRun
-- ==== Proof.IdealLaunch.lean ====
/-
The launch: from any memory with zero counters, every execution of the four kernels ends, the result array of every
device holds its own partial result summed with its peers', the arguments are as they were, and every counter is zero.
-/
module

public import proofs.«01_k».proof.Proof.IdealBody
public import Idealize.ShloMosaic.Lib.Pipeline.ValueKit
public import Idealize.ShloMosaic.Lib.Pipeline.CollectiveSegs
public import Idealize.ShloMosaic.Lib.Ring

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## What the run starts from and what it computes -/

abbrev argX (c : Dev nD) : Buf (Elt F) ((c : Thread nD τ).loc main_arg0) := m ((c : Thread nD τ).loc main_arg0)
abbrev argDY (c : Dev nD) : Buf (Elt F) ((c : Thread nD τ).loc main_arg1) := m ((c : Thread nD τ).loc main_arg1)

/-- The partial results, from the launch memory. -/
def PP (c : Dev nD) : Vec F S2x2048 .f32 := partialAt (argX m c) (argDY m c) c
/-- The result of device `c`. -/
def outAt (c : Dev nD) : Vec F S2x2048 .f32 := resultAt (PP m) c

/-- The two arguments the kernel reads, as at launch. -/
def argsPts (c : Dev nD) : sProp 𝕄 :=
  iprop((xM.view.loc (c : Thread nD τ) ↦[xM.view.set]{fullShare} (argX m c)) ∗ (dyM.view.loc (c : Thread nD τ) ↦[dyM.view.set]{fullShare} (argDY m c)))

/-- What the global step makes for device `c`: its part of the exchange, and its local copies' semaphores. -/
def G' (c : Dev nD) : sProp 𝕄 := iprop((∃ K, ghost (PP m) K c) ∗ localSems c)

def start (c : Dev nD) : sProp 𝕄 := iprop(G' m c ∗ creds c ∗ levAts L lv ∗ argsPts m c)

/-- The scratch buffers, at anything. -/
def scratch (c : Dev nD) : sProp 𝕄 :=
  iprop((∃ f, xbM.view.loc (c : Thread nD τ) ↦[Finset.univ]{fullShare} f) ∗ (∃ f, dybM.view.loc (c : Thread nD τ) ↦[Finset.univ]{fullShare} f)
    ∗ (∃ f, slotPts 0 c f) ∗ (∃ f, slotPts 1 c f) ∗ (∃ f, slotPts 2 c f))

def Φ₀ (c : Dev nD) : sProp 𝕄 := iprop(start m c ∗ scratch c)
def Φ₁ (c : Dev nD) : sProp 𝕄 :=
  iprop(argsPts m c ∗ scratch c ∗ localSems c
    ∗ (semVal (sendCell 0 c) 0 ∗ semVal (sendCell 1 c) 0 ∗ semVal (sendCell 2 c) 0 ∗ semVal (recvCell 0 c) 0 ∗ semVal (recvCell 1 c) 0 ∗ semVal (recvCell 2 c) 0)
    ∗ semVal (barCell c) 0)

def dats (_ : Fin 1) (c : Dev nD) : Dat τ (Elt F) Bool ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => owedAll c
    | ⟨_ + 1, _⟩ => 0

/-! ## The body, as the pipeline asks for it -/

omit [FloatOps F] in
theorem whole_set (b : Ref sig .tc) : (Memref.whole b).view.set = Finset.univ := by
  simp only [Memref.view_whole, View.set_whole]

omit [FloatOps F] in
theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : Buf (Elt F) ((c : Thread nD τ).loc cc0_stg0_0)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt false t0_0.castSucc ∗ (∃ d, stg c ((dats m 0 c).before (0 : Fin 1) t0_0 d)))
def bodyPost (c : Dev nD) : sProp 𝕄 :=
  iprop(Φ₁ m c ∗ (dats m 0 c).owesAt false t0_0.succ ∗ stg c (outAt m c))

/-- What `body_run` leaves is what the pipeline asks for. -/
theorem body_post (c : Dev nD) : bodyEnd (PP m) c (argX m c) (argDY m c) ⊢ bodyPost m c := by
  unfold bodyEnd bodyPost Φ₁ argsPts scratch
  iintro ⟨HX, HY, Hb, Hd, H0, H1, H2, Hl, Hs, HB, ⟨%W, HO⟩, Ho⟩
  isplitl [HX HY Hb Hd H0 H1 H2 Hl Hs HB]
  · isplitl [HX HY]
    · isplitl [HX] <;> iassumption
    isplitl [Hb Hd H0 H1 H2]
    · isplitl [Hb]; · iexact Hb
      isplitl [Hd]; · iexact Hd
      isplitl [H0]; · iexact H0
      isplitl [H1] <;> iassumption
    isplitl [Hl]; · iexact Hl
    isplitl [Hs] <;> iassumption
  isplitl [HO]
  · unfold Dat.owesAt Pipeline.owesWithin
    rw [show (dats m 0 c).owed t0_0.succ = 0 from rfl]
    iexists W
    isplitr; · ipureintro; exact fun _ _ => Or.inl trivial
    iexact HO
  iexists (resultAt (PP m) c)
  isplitr; · ipureintro; rfl
  rw [whole_set]
  iexact Ho

/-- The library's body obligation on core `c`. -/
theorem body_obligation (c : Dev nD) : BodyObligation (dats (F := F) m 0 c) (defs₀ (F := F)) 𝒱₀ false Set.univ := fun t => by
  rw [show t = t0_0 from fin_N0 t]
  rw [show ∀ Φ : Fin cfg0.W → sProp 𝕄, bigSep Finset.univ Φ = iprop(Φ (0 : Fin 1)) from fun Φ => bigSep_W0 Φ,
    show ∀ Φ : Fin cfg0.W → sProp 𝕄, bigSep Finset.univ Φ = iprop(Φ (0 : Fin 1)) from fun Φ => bigSep_W0 Φ]
  simp only [owns_whole_eq]
  show bodyPre m c ⊢ wp frame (wpE (defs₀ (F := F)) 𝒱₀ (c : Thread nD τ) none) Set.univ
    (cc0_body xM (Memref.isWhole_whole _) dyM (Memref.isWhole_whole _) oM (Memref.isWhole_whole _) xbM (Memref.isWhole_whole _)
      dybM (Memref.isWhole_whole _) cM (Memref.isWhole_whole _) cc0_scratch3 cc0_scratch4 cc0_scratch5) (fun _ => bodyPost m c)
  unfold bodyPre Φ₀ start G' argsPts scratch Dat.owesAt Pipeline.owesWithin stg
  rw [show (dats m 0 c).owed t0_0.castSucc = owedAll c from rfl]
  iintro ⟨⟨⟨⟨⟨%K, Hg⟩, Hl⟩, Hc, Hlev, HX, HY⟩, ⟨%f0, Hb⟩, ⟨%f1, Hd⟩, ⟨%g0, H0⟩, ⟨%g1, H1⟩, ⟨%g2, H2⟩⟩, ⟨%W, %hW, HO⟩, ⟨%d, ⟨%fo, %hf, Ho⟩⟩⟩
  iapply (body_run (PP m) K c W (argX m c) (argDY m c) f0 f1 fo g0 g1 g2 (fun _ => bodyPost m c) rfl)
  isplitl [Hg]; · iexact Hg
  isplitl [Hc]; · iexact Hc
  isplitl [Hlev]; · iexact Hlev
  isplitl [Hl]; · iexact Hl
  isplitl [HX]; · iexact HX
  isplitl [HY]; · iexact HY
  isplitl [Hb]; · iexact Hb
  isplitl [Hd]; · iexact Hd
  isplitl [H0]; · iexact H0
  isplitl [H1]; · iexact H1
  isplitl [H2]; · iexact H2
  isplitl [Ho]; · rw [whole_set]; iexact Ho
  isplitl [HO]; · iexact HO
  iintro H
  iapply (body_post m c)
  iexact H

/-! ## The cells and the tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl
def exCells : Finset (GSem nD τ sig) := Finset.univ.map ⟨kcell, kcell_injective⟩

/-- The nine duties of a device's own cells: three at the barrier, one at each send and each receive. -/
abbrev tokSem : Fin 9 → SemLoc sig × Fin 3
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
abbrev tokOf (cj : Dev nD × Fin 9) : GSem nD τ sig × ℕ × Fin 3 := (((cj.1 : Thread nD τ), (tokSem cj.2).1), 0, (tokSem cj.2).2)
theorem tokSem_injective : Function.Injective tokSem := by decide
theorem tokOf_injective : Function.Injective tokOf := by
  rintro ⟨c, j⟩ ⟨c', j'⟩ h
  obtain rfl : c = c' := congrArg (fun x : GSem nD τ sig × ℕ × Fin 3 => x.1.1.1) h
  obtain rfl : j = j' := tokSem_injective (congrArg (fun x : GSem nD τ sig × ℕ × Fin 3 => (x.1.2, x.2.2)) h)
  rfl
def exToks : Finset (GSem nD τ sig × ℕ × Fin 3) := Finset.univ.map ⟨tokOf, tokOf_injective⟩

def u₀ : UU :=
  (initOf (Pipeline.cells cfgs cellOf_inj) (Pipeline.launchToks cfgs cellOf_inj), (initOf exCells exToks, 1))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- What the launch element deals device `c`. -/
def G (c : Dev nD) : sProp 𝕄 :=
  iprop((bigSep Finset.univ fun k : Fin 7 => roundState ER (sched (PP m)) (kcell (c, k)) 0)
    ∗ (bigSep Finset.univ fun k : Fin 7 => iprop(atPos ER (kcell (c, k)) 0 ∅ 0 ∗ reached ER (kcell (c, k)) 0)) ∗ toks c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 7 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin9]; rfl
  iintro HX
  imod (Rounds.fund ER (sched (PP m)) exCells exToks) $$ HX with ⟨Hst, Hr, Hat, Htok⟩
  imodintro
  ihave Hst' := (Entails.of_eq (hX fun g => roundState ER (sched (PP m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Bool) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ semVal ((c : Thread nD τ), osem 6) 0 ∗ semVal ((c : Thread nD τ), osem 7) 0 ∗ semVal ((c : Thread nD τ), osem 8) 0
      ∗ semVal ((c : Thread nD τ), osem 9) 0 ∗ semVal ((c : Thread nD τ), osem 10) 0 ∗ semVal ((c : Thread nD τ), osem 11) 0
      ∗ semVal ((c : Thread nD τ), osem 12) 0 ∗ semVal ((c : Thread nD τ), osem 13) 0 ∗ semVal ((c : Thread nD τ), osem 14) 0
      ∗ semVal ((c : Thread nD τ), osem 15) 0 ∗ semVal ((c : Thread nD τ), osem 16) 0 ∗ semVal ((c : Thread nD τ), osem 17) 0
      ∗ semVal ((c : Thread nD τ), osem 18) 0 ∗ semVal ((c : Thread nD τ), osem 19) 0 ∗ semVal ((c : Thread nD τ), osem 20) 0
      ∗ semVal ((c : Thread nD τ), osem 21) 0) := by
  rw [Pipeline.ownSems0_eq_of_list c osem [0, 1, 2, 3, 4, 5, 6, 7, 8, 9, 10, 11, 12, 13, 14, 15, 16, 17, 18, 19, 20, 21] (by decide) (by decide)]; rfl

/-- The kernel's own semaphores: the local copies' sixteen, the sends', the receives'. -/
def exSems (c : Dev nD) : sProp 𝕄 :=
  iprop(semVal (sendCell 0 c) 0 ∗ semVal (sendCell 1 c) 0 ∗ semVal (sendCell 2 c) 0 ∗ semVal (recvCell 0 c) 0 ∗ semVal (recvCell 1 c) 0 ∗ semVal (recvCell 2 c) 0)

omit [FloatOps F] in
theorem own_sems_split (c : Dev nD) :
    (Pipeline.ownSems0 (Ix := Bool) (Name := ℕ) (U := UU) (Lvl := ℕ) (Val := Elt F) (τ := τ) osem c : sProp 𝕄) = iprop(localSems c ∗ exSems c) := by
  have assoc (A B C : sProp 𝕄) : iprop((A ∗ B) ∗ C) = iprop(A ∗ B ∗ C) := Idealize.SL.BI.Entails.antisymm Idealize.SL.BI.sep_assoc Idealize.SL.BI.sep_assoc'
  rw [ownSems0_eq]
  unfold localSems exSems
  simp only [assoc]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_split (c : Dev nD) :
    iprop(Pipeline.ownSems0 (Ix := Bool) (Name := ℕ) (U := UU) (Lvl := ℕ) (Val := Elt F) (τ := τ) osem c ∗ unscopedSems0 c)
      ⊢ (iprop(localSems c ∗ bigSep Finset.univ fun k : Fin 7 => semVal (kcell (c, k)) 0) : sProp 𝕄) := by
  rw [own_sems_split, unscopedSems0_eq, bigSep_fin7]
  unfold exSems
  iintro ⟨⟨HL, HX⟩, HB⟩
  isplitl [HL]; · iexact HL
  isplitl [HB] <;> iassumption

/-- Device `c` allocates its seven cells' invariants. -/
theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (PP m)) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hv := (sems_split (F := F) c) $$ [Hos Hus]
  · isplitl [Hos] <;> iassumption
  icases Hv with ⟨Hl, Hv⟩
  imod (show iprop((bigSep Finset.univ fun k : Fin 7 => semVal (kcell (c, k)) 0) ∗ bigSep Finset.univ fun k : Fin 7 => roundState ER (sched (PP m)) (kcell (c, k)) 0)
      ⊢ (|={Set.univ}=> bigSep Finset.univ fun k => iprop(∃ κ : ℕ, cellInv ER (sched (PP m)) κ (kcell (c, k))) : sProp 𝕄) from by
        rw [← bigSep_sep']
        exact (bigSep_mono fun k _ => (Rounds.body_intro ER (sched (PP m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

def records (K : Dev nD × Fin 7 → ℕ) : sProp 𝕄 :=
  iprop((bigSep Finset.univ fun ck : Dev nD × Fin 7 => cellInv ER (sched (PP m)) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (sched (PP m)) (K ck) (kcell ck) : sProp 𝕄)) ⊢ cellInv ER (sched (PP m)) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the duties device `c` pays: at its peers' barriers and receives, at its own sends. -/
def payToks (c : Dev nD) : sProp 𝕄 :=
  iprop(dutyTok ER (barCell (peer 0 c)) 0 0 ∗ dutyTok ER (barCell (peer 1 c)) 0 1 ∗ dutyTok ER (barCell (peer 2 c)) 0 2
    ∗ dutyTok ER (sendCell 0 c) 0 0 ∗ dutyTok ER (sendCell 1 c) 0 0 ∗ dutyTok ER (sendCell 2 c) 0 0
    ∗ dutyTok ER (recvCell 0 (peer 0 c)) 0 0 ∗ dutyTok ER (recvCell 1 (peer 1 c)) 0 0 ∗ dutyTok ER (recvCell 2 (peer 2 c)) 0 0)

def positions (c : Dev nD) : sProp 𝕄 := bigSep Finset.univ fun k : Fin 7 => atPos ER (kcell (c, k)) 0 ∅ 0

theorem ghost_intro (K : Dev nD × Fin 7 → ℕ) (c : Dev nD) : iprop(records m K ∗ positions c ∗ payToks c ∗ localSems c) ⊢ G' m c := by
  unfold records positions payToks G' ghost invs
  rw [bigSep_fin7]
  iintro ⟨⟨#HI, #HR⟩, ⟨HaB, HaS0, HaS1, HaS2, HaR⟩, ⟨B0, B1, B2, S0, S1, S2, R⟩, HL⟩
  isplitr [HL]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (peer 0 c, 0)); iexact HI
      isplitr; · iapply (inv_at m K (peer 1 c, 0)); iexact HI
      isplitr; · iapply (inv_at m K (peer 2 c, 0)); iexact HI
      isplitr; · iapply (inv_at m K (peer 0 c, 4)); iexact HI
      isplitr; · iapply (inv_at m K (peer 1 c, 5)); iexact HI
      iapply (inv_at m K (peer 2 c, 6)); iexact HI
    isplitl [HaB HaS0 HaS1 HaS2 HaR]
    · isplitl [HaB]; · iexact HaB
      isplitl [HaS0 HaS1 HaS2]
      · isplitl [HaS0]; · iexact HaS0
        isplitl [HaS1] <;> iassumption
      iexact HaR
    isplitr
    · isplitr; · iapply (reached_at (F := F) (peer 0 c, 0)); iexact HR
      isplitr; · iapply (reached_at (F := F) (peer 1 c, 0)); iexact HR
      iapply (reached_at (F := F) (peer 2 c, 0)); iexact HR
    isplitr
    · isplitr; · iapply (reached_at (F := F) (c, 1)); iexact HR
      isplitr; · iapply (reached_at (F := F) (c, 2)); iexact HR
      iapply (reached_at (F := F) (c, 3)); iexact HR
    isplitr
    · isplitr; · iapply (reached_at (F := F) (c, 4)); iexact HR
      isplitr; · iapply (reached_at (F := F) (c, 5)); iexact HR
      iapply (reached_at (F := F) (c, 6)); iexact HR
    isplitl [B0 B1 B2]
    · isplitl [B0]; · iexact B0
      isplitl [B1] <;> iassumption
    isplitl [S0 S1 S2]
    · isplitl [S0]; · iexact S0
      isplitl [S1] <;> iassumption
    iexact R
  · iexact HL

omit [FloatOps F] in
/-- The tokens dealt to who pays: the barrier's and the receives' tokens go across the peer relation. -/
theorem toks_across : (bigSep Finset.univ fun c : Dev nD => (toks c : sProp 𝕄)) ⊢ bigSep Finset.univ fun c : Dev nD => payToks c := by
  unfold toks payToks
  simp only [bigSep_sep']
  rw [bigSep_univ_equiv (peerEquiv 0) (fun c : Dev nD => (dutyTok ER (barCell c) 0 0 : sProp 𝕄)),
    bigSep_univ_equiv (peerEquiv 1) (fun c : Dev nD => (dutyTok ER (barCell c) 0 1 : sProp 𝕄)),
    bigSep_univ_equiv (peerEquiv 2) (fun c : Dev nD => (dutyTok ER (barCell c) 0 2 : sProp 𝕄)),
    bigSep_univ_equiv (peerEquiv 0) (fun c : Dev nD => (dutyTok ER (recvCell 0 c) 0 0 : sProp 𝕄)),
    bigSep_univ_equiv (peerEquiv 1) (fun c : Dev nD => (dutyTok ER (recvCell 1 c) 0 0 : sProp 𝕄)),
    bigSep_univ_equiv (peerEquiv 2) (fun c : Dev nD => (dutyTok ER (recvCell 2 c) 0 0 : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched (PP m)) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 7 => iprop(∃ κ : ℕ, cellInv ER (sched (PP m)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, HL⟩
  ihave HK := (BI.bigSep_exists_pi Finset.univ (fun (ck : Dev nD × Fin 7) (κ : ℕ) => (cellInv ER (sched (PP m)) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · rw [bigSep_sep', bigSep_sep']
    isplitl [Hat]; · unfold positions; iexact Hat
    isplitl [Htk] <;> iassumption

/-- The global step: every device's own and unscoped semaphores at once. -/
theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem peer_eq_iff (k : Fin 3) (c d : Dev nD) : c = peer k d ↔ d = peer k c := by revert k c d; decide

/-- What device `d`'s barrier signal to its peer `k` owes device `c`. -/
theorem tally_bar (k : Fin 3) (c d : Dev nD) :
    (tallyAt (barCell (peer k d)) true 1 : CellTallies nD τ sig Bool) (barCell c) true = if d = peer k c then 1 else 0 := by
  rw [tallyAt_apply]
  by_cases h : d = peer k c
  · subst h; rw [peer_peer, if_pos ⟨rfl, rfl⟩, if_pos rfl]
  · rw [if_neg h, if_neg]
    rintro ⟨h1, -⟩
    exact h ((peer_eq_iff k c d).mp (congrArg (fun g : GSem nD τ sig => g.1.1) h1))

theorem recvS_injective : Function.Injective recvS := by decide

/-- What device `d`'s copy to its peer `j` owes device `c` at its receive `k`. -/
theorem tally_recv (j k : Fin 3) (c d : Dev nD) :
    (tallyAt (recvCell j (peer j d)) true N : CellTallies nD τ sig Bool) (recvCell k c) true = if k = j ∧ d = peer k c then N else 0 := by
  rw [tallyAt_apply]
  by_cases h : k = j ∧ d = peer k c
  · rw [if_pos h]
    obtain ⟨rfl, rfl⟩ := h
    rw [peer_peer, if_pos ⟨rfl, rfl⟩]
  · rw [if_neg h, if_neg]
    rintro ⟨h1, -⟩
    have hk : k = j := recvS_injective (by
      have := congrArg Prod.snd h1
      injection this)
    subst hk
    exact h ⟨rfl, (peer_eq_iff k c d).mp (congrArg (fun g : GSem nD τ sig => g.1.1) h1)⟩

theorem tally_bar_recv (j k : Fin 3) (c d : Dev nD) : (tallyAt (barCell d) true 1 : CellTallies nD τ sig Bool) (recvCell k c) true = 0 := by
  rw [tallyAt_apply, if_neg]; rintro ⟨h, -⟩; exact recv_not_bar k (congrArg Prod.snd h)
theorem tally_recv_bar (k : Fin 3) (c d : Dev nD) : (tallyAt (recvCell k d) true N : CellTallies nD τ sig Bool) (barCell c) true = 0 := by
  rw [tallyAt_apply, if_neg]; rintro ⟨h, -⟩; exact recv_not_bar k (congrArg Prod.snd h).symm

theorem owed_bar (d c : Dev nD) :
    owedAll d (barCell c) true = (if d = peer 2 c then 1 else 0) + (if d = peer 1 c then 1 else 0) + (if d = peer 0 c then 1 else 0) := by
  unfold owedAll owedRecv
  simp only [Pi.add_apply, Finsupp.add_apply]
  rw [tally_recv_bar, tally_recv_bar, tally_recv_bar, tally_bar, tally_bar, tally_bar, Nat.zero_add]

theorem owed_recv (k : Fin 3) (d c : Dev nD) : owedAll d (recvCell k c) true = if d = peer k c then N else 0 := by
  unfold owedAll owedRecv
  simp only [Pi.add_apply, Finsupp.add_apply]
  rw [tally_recv, tally_recv, tally_recv, tally_bar_recv 0, tally_bar_recv 0, tally_bar_recv 0]
  simp only [Nat.add_zero]
  by_cases h : d = peer k c
  · rw [if_pos h]
    fin_cases k <;> simp [h]
  · rw [if_neg h, if_neg (fun h' => h h'.2), if_neg (fun h' => h h'.2), if_neg (fun h' => h h'.2)]

/-- Nothing of what is owed is at the local copies' index. -/
theorem owed_false (d : Dev nD) (g : GSem nD τ sig) : owedAll d g false = 0 :=
  Nat.eq_zero_of_not_pos fun h => by
    rcases owedAll_pos h with ⟨k, -, h⟩ | ⟨k, -, h⟩ <;> cases h

theorem launch_credit (g : GSem nD τ sig) (n : ℕ) (h : ∑ d : Dev nD, owedAll d g true = n) :
    tallyOn g (launchCredit (Pipeline.owing owedAll) 0 g) = (tallyAt g true n : CellTallies nD τ sig Bool) := by
  unfold tallyAt
  refine congrArg _ (Finsupp.ext fun u => ?_)
  rw [Pipeline.launchCredit_owing]
  cases u
  · rw [Finset.sum_congr rfl fun d _ => owed_false d g, Finset.sum_const_zero, Finsupp.single_eq_of_ne (by decide)]
  · rw [h, Finsupp.single_eq_same]

theorem launch_bar (c : Dev nD) :
    tallyOn (barCell c) (launchCredit (Pipeline.owing owedAll) 0 (barCell c)) = (tallyAt (barCell c) true 3 : CellTallies nD τ sig Bool) :=
  launch_credit _ _ (by
    rw [Finset.sum_congr rfl fun d _ => owed_bar d c, Finset.sum_add_distrib, Finset.sum_add_distrib]
    rw [Finset.sum_ite_eq' Finset.univ (peer 2 c) fun _ => 1, Finset.sum_ite_eq' Finset.univ (peer 1 c) fun _ => 1,
      Finset.sum_ite_eq' Finset.univ (peer 0 c) fun _ => 1]
    simp only [Finset.mem_univ, if_true])

theorem launch_recv (k : Fin 3) (c : Dev nD) :
    tallyOn (recvCell k c) (launchCredit (Pipeline.owing owedAll) 0 (recvCell k c)) = (tallyAt (recvCell k c) true N : CellTallies nD τ sig Bool) :=
  launch_credit _ _ (by
    rw [Finset.sum_congr rfl fun d _ => owed_recv k d c, Finset.sum_ite_eq' Finset.univ (peer k c) fun _ => N, if_pos (Finset.mem_univ _)])

omit [FloatOps F] in
theorem creds_intro (c : Dev nD) : (Pipeline.launchCred owedAll c : sProp 𝕄) ⊢ creds c := by
  unfold Pipeline.launchCred creds
  refine (bigSep_subset (t := ([.reg barS, .dma (recvS 0), .dma (recvS 1), .dma (recvS 2)] : List (SemLoc sig)).toFinset) (Finset.subset_univ _)).trans ?_
  rw [bigSep_eq_bigSepL_of_eq ([.reg barS, .dma (recvS 0), .dma (recvS 1), .dma (recvS 2)] : List (SemLoc sig)) rfl (by decide),
    bigSepL_cons_cons, bigSepL_cons_cons, bigSepL_cons_cons, bigSepL_singleton, launch_bar, launch_recv, launch_recv, launch_recv]
  exact BI.Entails.refl _

/-! ## The landing buffer's three slots -/

abbrev slotOff (k : Fin 3) : Fin 3 → ℕ := ![k.val, 0, 0]
theorem slotOff_inb (k : Fin 3) (a : Fin 3) : slotOff k a + S1x2x2048.size a ≤ S3x2x2048.size a := by
  revert k a; decide
abbrev slotSet (k : Fin 3) : Finset S3x2x2048.Idx := (Rect.unit (s := S3x2x2048) (slotOff k) S1x2x2048.size (slotOff_inb k)).set

theorem slotSet_disjoint (k k' : Fin 3) (h : k ≠ k') : Disjoint (slotSet k) (slotSet k') :=
  Ring.lead_disjoint (s := S3x2x2048) (0 : Fin 3) 1 slotOff S1x2x2048.size slotOff_inb (by decide) (by decide) k k' h
theorem slotSet_cover : Finset.univ.biUnion slotSet = Finset.univ :=
  Ring.lead_cover (s := S3x2x2048) (0 : Fin 3) 1 slotOff S1x2x2048.size slotOff_inb (by decide) (by decide) (by decide) (by decide) (by decide)

omit [FloatOps F] in
theorem slotPts_eq0 (c : Dev nD) (f) : slotPts 0 c f = (((c : Thread nD τ).loc cc0_scratch2) ↦[slotSet 0]{fullShare} f : sProp 𝕄) := by
  unfold slotPts
  rw [show (slotM 0).view.set = slotSet 0 from View.set_reshape _ _ |>.trans (View.set_slice_whole _ _)]
omit [FloatOps F] in
theorem slotPts_eq1 (c : Dev nD) (f) : slotPts 1 c f = (((c : Thread nD τ).loc cc0_scratch2) ↦[slotSet 1]{fullShare} f : sProp 𝕄) := by
  unfold slotPts
  rw [show (slotM 1).view.set = slotSet 1 from View.set_reshape _ _ |>.trans (View.set_slice_whole _ _)]
omit [FloatOps F] in
theorem slotPts_eq2 (c : Dev nD) (f) : slotPts 2 c f = (((c : Thread nD τ).loc cc0_scratch2) ↦[slotSet 2]{fullShare} f : sProp 𝕄) := by
  unfold slotPts
  rw [show (slotM 2).view.set = slotSet 2 from View.set_reshape _ _ |>.trans (View.set_slice_whole _ _)]

omit [FloatOps F] in
/-- The landing buffer whole is its three slots, -/
theorem slots_split (c : Dev nD) : (iprop(∃ f, ((c : Thread nD τ).loc cc0_scratch2) ↦{fullShare} f) : sProp 𝕄)
    ⊢ iprop((∃ f, slotPts 0 c f) ∗ (∃ f, slotPts 1 c f) ∗ ∃ f, slotPts 2 c f) :=
  Ring.slots3_split (ℓ := (c : Thread nD τ).loc cc0_scratch2) slotSet slotSet_disjoint slotSet_cover _ _ _ (slotPts_eq0 c) (slotPts_eq1 c) (slotPts_eq2 c)
omit [FloatOps F] in
/-- and the three slots are the buffer. -/
theorem slots_join (c : Dev nD) : (iprop((∃ f, slotPts 0 c f) ∗ (∃ f, slotPts 1 c f) ∗ ∃ f, slotPts 2 c f) : sProp 𝕄)
    ⊢ iprop(∃ f, ((c : Thread nD τ).loc cc0_scratch2) ↦{fullShare} f) :=
  Ring.slots3_join (ℓ := (c : Thread nD τ).loc cc0_scratch2) slotSet slotSet_disjoint slotSet_cover _ _ _ (slotPts_eq0 c) (slotPts_eq1 c) (slotPts_eq2 c)

/-! ## The launch theorem's side conditions -/

/-- The argument the kernel does not read, as at launch. -/
abbrev restPts (c : Dev nD) : sProp 𝕄 := iprop(((c : Thread nD τ).loc main_arg2) ↦{fullShare} m ((c : Thread nD τ).loc main_arg2))

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ restPts m c) := by
  rw [Pipeline.unscopedRestP_none, unscopedRest0_eq]
  iintro ⟨⟨HX, HY, HR⟩, Hlev, Hcr, -, HG⟩
  ihave Hc := (creds_intro (F := F) c) $$ Hcr
  imodintro
  unfold start argsPts
  rw [whole_set, whole_set]
  isplitr [HR]
  · isplitl [HG]; · iexact HG
    isplitl [Hc]; · iexact Hc
    isplitl [Hlev]; · iexact Hlev
    isplitl [HX] <;> iassumption
  · iexact HR

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H0, H1, H2⟩
  ihave H := (slots_split (F := F) c) $$ H2
  isplitl [Hs]; · iexact Hs
  isplitl [H0]; · iexact H0
  isplitl [H1]; · iexact H1
  iexact H

theorem phi1_exit (c : Dev nD) :
    (dats m 0 c).Φ (Fin.last cfg0.N) ⊢ iprop((argsPts m c ∗ unscopedSems0 c) ∗ Pipeline.ownSems0 osem c ∗ Pipeline.scopedRest cfg0.spec c) := by
  rw [show (dats m 0 c).Φ (Fin.last cfg0.N) = Φ₁ m c from rfl, scopedRest0_eq, own_sems_split, unscopedSems0_eq]
  unfold Φ₁ scratch exSems
  iintro ⟨Ha, ⟨H0, H1, H2⟩, Hl, He, HB⟩
  ihave H := (slots_join (F := F) c) $$ H2
  isplitl [Ha HB]
  · isplitl [Ha] <;> iassumption
  isplitl [Hl He]
  · isplitl [Hl] <;> iassumption
  isplitl [H0]; · iexact H0
  isplitl [H1]; · iexact H1
  iexact H

theorem waits (c : Dev nD) : (levAts L lv : sProp 𝕄) ⊢ Pipeline.cellsWaits cfgs (dats m) false 0 c :=
  Pipeline.cellsWaits_intro cfgs (dats m) false 0 c fun w s t =>
    mayWait_false c _ _ (by
      rcases t with ⟨_ | _, ht⟩
      · exact Or.inl rfl
      · exact Or.inr (Or.inr rfl))

/-- The result array ends holding the device's result. -/
theorem arr_end (c : Dev nD) : (dats m 0 c).arrAt (0 : Fin 1) cfg0.N = outAt m c := by
  refine (dats m 0 c).arrAt_eq_of_after_last (0 : Fin 1) t0_0 (by decide +kernel) _ fun j => ?_
  rfl

/-- What every final state has of device `c`: the arguments unchanged, the unscoped counters zero. -/
def ArgsKept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))

omit [FloatOps F] in
theorem read_back (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Bool) (Name := ℕ) (U := UU) (Lvl := ℕ) ({()} : Finset Unit) (fun _ => ℓ) (fun _ => f) s'
  rw [bigSep_singleton] at h
  refine h.trans ?_
  iintro ⟨%h, H⟩
  isplitr; · ipureintro; exact h () (Finset.mem_singleton_self _)
  iexact H

theorem read_end (c : Dev nD) (s' : Phys nD τ sig (Elt F)) :
    iprop((argsPts m c ∗ unscopedSems0 c) ∗ restPts m c ∗ SI s')
      ⊢ (|={Set.univ}=> iprop(⌜ArgsKept m c s'.mem ∧ ∀ sm : SemLoc sig, sm.isScoped .tc = false → s'.mem.sem ((c.tc : Thread nD τ), sm) = 0⌝ ∗ SI s') : sProp 𝕄) := by
  unfold argsPts
  rw [whole_set, whole_set]
  iintro ⟨⟨⟨HX, HY⟩, HU⟩, HR, HS⟩
  ihave H := (read_back (F := F) _ _ s') $$ [HX HS]
  · isplitl [HX] <;> iassumption
  icases H with ⟨%h0, HS⟩
  ihave H := (read_back (F := F) _ _ s') $$ [HY HS]
  · isplitl [HY] <;> iassumption
  icases H with ⟨%h1, HS⟩
  ihave H := (read_back (F := F) _ _ s') $$ [HR HS]
  · isplitl [HR] <;> iassumption
  icases H with ⟨%h2, HS⟩
  imod (Pipeline.unscopedSems0_read (X := unscopedSems0 c) (c := c) fupd_intro s') $$ [HU HS] with ⟨%h3, HS⟩
  · isplitl [HU] <;> iassumption
  imodintro
  isplitr; · ipureintro; exact ⟨⟨h0, h1, h2⟩, h3⟩
  iexact HS

/-! ## The run -/

/-- From any memory with zero counters: every execution of @main on the four devices ends; every final state has each
    device's result array at the sum of the partial results, the arguments unchanged and every counter at zero. -/
theorem run_main : θ_run defs (onTc (τ := τ) (main (F := F))) ⟨m, fun _ => 0, ρ⟩
    (fun r => (∀ c : Dev nD, r.2.mem ((c : Thread nD τ).loc main_v1) = outAt m c ∧ ArgsKept m c r.2) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (show ∀ (a : UR sig nD τ) (b : UB), (ownU ((a, (b, 1)) : UU) : sProp 𝕄) ⊢ iprop(BI.own (EP a) ∗ BI.own (ER b)) from fun a b =>
        BI.own_op_elim ((uEmb (nD := nD) (sig := sig) (Ix := Bool) (Val := Elt F) (Name := ℕ) (U := UU) (Lvl := ℕ)).toEmb.op_of_mem
          (Prod.mk_mem_op (URA.mem_op_one a) (URA.mem_one_op (b, (1 : Counters)))))) _ _ $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => iprop(argsPts m c ∗ unscopedSems0 c)) (Z := fun c => restPts m c)
    (hX := start_intro m ρ) (hin := phi0_intro m) (hout := phi1_exit m)
    (QY := fun c s => ArgsKept m c s ∧ ∀ sm : SemLoc sig, sm.isScoped .tc = false → s.sem ((c.tc : Thread nD τ), sm) = 0)
    (hY := read_end m)
    (hQ := fun _ h hs => ⟨fun c => ⟨((h c).1 (0 : Fin 1)).trans (arr_end m c), (h c).2.2.1⟩, sem_eq_zero hs fun c => (h c).2.2.2⟩)

end Cert.KernelIdealRun
-- ==== Proof.ValueBlocks.lean ====
/-
  What one block of 256 rows adds to the two sums, at extended reals, read entry by entry.
-/
module

public import proofs.«01_k».proof.Proof.IdealBody
public import Idealize.ShloMosaic.Lib.Pointwise

@[expose] public section

noncomputable section

namespace Cert.KernelIdealRun

open Idealize.ShloMosaic Cert.KernelIdeal Cert.KernelIdeal.Gen
open scoped BigOperators

/-- A row's mean. -/
def rowMean (v : Fin 2048 → EReal) : EReal := Ideal.div (∑ l, v l) (Ideal.ofBits .f32 0x45000000#32)

/-- A row's variance. -/
def rowVar (v : Fin 2048 → EReal) : EReal :=
  Ideal.div (∑ l, (v l - rowMean v) * (v l - rowMean v)) (Ideal.ofBits .f32 0x45000000#32)

/-- What a row `v` of `x` and a row `w` of `dy` give to entry `k` of the sum for `gamma`. -/
def rowTerm (v w : Fin 2048 → EReal) (k : Fin 2048) : EReal :=
  w k * ((v k - rowMean v) * Ideal.rsqrt (rowVar v + Ideal.ofBits .f32 0x3727C5AC#32))

/-- One block's addition to the sum for `gamma`; -/
theorem gammaStep_apply (acc : FVec Ideal S1x2048 .f32) (x dy : Vec Ideal S1x256x2048 .f32) (k : Fin 2048) :
    gammaStep acc x dy (ix2 0 k)
      = acc (ix2 0 k) + ∑ r : Fin 256, rowTerm (fun l => x (ix3 0 r l)) (fun l => dy (ix3 0 r l)) k := by
  pointwise [gammaStep, k0_pay7, k0_pay4, k0_pay5, k0_pay6, rowTerm, rowVar, rowMean]

/-- and to the sum for `beta`. -/
theorem betaStep_apply (acc : FVec Ideal S1x2048 .f32) (dy : Vec Ideal S1x256x2048 .f32) (k : Fin 2048) :
    betaStep acc dy (ix2 0 k) = acc (ix2 0 k) + ∑ r : Fin 256, dy (ix3 0 r k) := by
  pointwise [betaStep, k0_pay8, k0_pay4]

/-- The sum for `gamma` over the eight blocks; -/
theorem gammaSum_apply (bx bdy : Fin 8 → Vec Ideal S1x256x2048 .f32) (k : Fin 2048) :
    gammaSum bx bdy (ix2 0 k)
      = ∑ i : Fin 8, ∑ r : Fin 256, rowTerm (fun l => bx i (ix3 0 r l)) (fun l => bdy i (ix3 0 r l)) k := by
  have h0 : (k0_pay2 : FVec Ideal S1x2048 .f32) (ix2 0 k) = 0 := by pointwise [k0_pay2]
  simp only [gammaSum, List.foldl_cons, List.foldl_nil, gammaStep_apply, h0, zero_add, Fin.sum_univ_eight]

/-- and the sum for `beta`. -/
theorem betaSum_apply (bdy : Fin 8 → Vec Ideal S1x256x2048 .f32) (k : Fin 2048) :
    betaSum bdy (ix2 0 k) = ∑ i : Fin 8, ∑ r : Fin 256, bdy i (ix3 0 r k) := by
  have h0 : (k0_pay3 : FVec Ideal S1x2048 .f32) (ix2 0 k) = 0 := by pointwise [k0_pay3]
  simp only [betaSum, List.foldl_cons, List.foldl_nil, betaStep_apply, h0, zero_add, Fin.sum_univ_eight]

/-- Row `r` of block `i` of a device's share, as a row of the device's argument. -/
def ownRow (c : Dev nD) (i : Fin 8) (r : Fin 256) : Fin 4096 :=
  ⟨2048 * (c.val / 2) + 256 * i.val + r.val, by
    have h1 := i.isLt
    have h2 := r.isLt
    have h3 : c.val < 4 := c.isLt
    omega⟩

/-- An entry of a block as it lies in its slot. -/
theorem slotBlock_apply (X : Vec Ideal S4096x2048 .f32) (c : Dev nD) (i : Fin 8) (r : Fin 256) (l : Fin 2048) :
    slotBlock X c i (ix3 0 r l) = X (ix2 (ownRow c i r) l) := by
  pointwise [slotBlock]
  rfl

/-- Device `c`'s partial result: row 0 is its share of the sum for `gamma`, -/
theorem partialAt_gamma (X DY : Vec Ideal S4096x2048 .f32) (c : Dev nD) (k : Fin 2048) :
    partialAt X DY c (ix2 0 k)
      = ∑ i : Fin 8, ∑ r : Fin 256, rowTerm (fun l => X (ix2 (ownRow c i r) l)) (fun l => DY (ix2 (ownRow c i r) l)) k := by
  refine Eq.trans ?_ ((gammaSum_apply (slotBlock X c) (slotBlock DY c) k).trans ?_)
  · pointwise [partialAt, partialOf, stack]
  · simp only [slotBlock_apply]

/-- row 1 its share of the sum for `beta`. -/
theorem partialAt_beta (X DY : Vec Ideal S4096x2048 .f32) (c : Dev nD) (k : Fin 2048) :
    partialAt X DY c (ix2 1 k) = ∑ i : Fin 8, ∑ r : Fin 256, DY (ix2 (ownRow c i r) k) := by
  refine Eq.trans ?_ ((betaSum_apply (slotBlock DY c) k).trans ?_)
  · pointwise [partialAt, partialOf, stack]
  · simp only [slotBlock_apply]

/-- The result a device writes: its own partial result and the three it was sent. -/
theorem resultAt_apply (P : Dev nD → Vec Ideal S2x2048 .f32) (c : Dev nD) (j : S2x2048.Idx) :
    resultAt P c j = P c j + (P (peer 0 c) j + P (peer 1 c) j + P (peer 2 c) j) := by
  pointwise [resultAt, k0_pay1]

end Cert.KernelIdealRun
-- ==== Proof.ValueReference.lean ====
/-
  The reference's result at extended reals: row 0 sums over all 8192 rows what each gives to the gradient of `gamma`, row 1
  sums `dy`. The reference divides one by a square root where the kernel takes the reciprocal square root; the two agree
  because a variance is not negative.
-/
module

public import proofs.«01_k».proof.Proof.ValueBlocks
public import proofs.«01_k».proof.Proof.Gen.ReferenceIdeal.Run
public import Idealize.ShloMosaic.Lib.IdealHost
public import Idealize.ShloMosaic.Lib.KernelVsHost

@[expose] public section

noncomputable section

namespace Cert.KernelIdealRun

open Idealize.ShloMosaic Idealize.ShloMosaic.TcCoe Idealize.SL.Sem
open scoped BigOperators

/-- The length of a row, as the programs spell it. -/
theorem rowLength : Ideal.ofBits .f32 0x45000000#32 = ((2048 : ℝ) : EReal) := by
  simp [Ideal.ofBits, Ideal.ieee, -EReal.coe_mul]; norm_num

theorem eps_nonneg : 0 ≤ Ideal.ofBits .f32 0x3727C5AC#32 := by
  simp [Ideal.ofBits, Ideal.ieee, -EReal.coe_mul]

/-- A product of a number with itself is not negative, at an infinity either. -/
theorem square_nonneg (x : EReal) : 0 ≤ x * x := by
  rcases le_total 0 x with h | h
  · exact EReal.mul_nonneg h h
  · have h' := EReal.mul_nonneg (EReal.neg_nonneg.mpr h) (EReal.neg_nonneg.mpr h)
    rwa [neg_mul_neg] at h'

/-- A variance is not negative. -/
theorem rowVar_nonneg (v : Fin 2048 → EReal) : 0 ≤ rowVar v := by
  unfold rowVar
  rw [rowLength, Ideal.div, if_neg (by norm_num)]
  refine EReal.mul_nonneg (Finset.sum_nonneg fun l _ => square_nonneg _) ?_
  exact EReal.inv_nonneg_of_nonneg (by norm_num)

/-- Off the negative numbers, one over the square root is the reciprocal square root. -/
theorem one_div_sqrt {x : EReal} (hx : 0 ≤ x) : Ideal.div 1 (Ideal.sqrt x) = Ideal.rsqrt x := by
  induction x with
  | bot => simp at hx
  | top => rw [Ideal.sqrt_top, Ideal.rsqrt_top]; simp [Ideal.div]
  | coe r =>
    have hr : 0 ≤ r := by exact_mod_cast hx
    rw [Ideal.sqrt_coe, Ideal.rsqrt_coe, if_neg (not_lt.mpr hr), if_neg (not_lt.mpr hr)]
    rcases hr.eq_or_lt with h | h
    · subst h; simp [Ideal.div]
    · have hs : Real.sqrt r ≠ 0 := (Real.sqrt_pos.mpr h).ne'
      simp [Ideal.div, h.ne', hs, EReal.coe_inv]

/-- The two gradients: row 0 `gamma`'s, row 1 `beta`'s, each summed over all rows. -/
def gradients (X DY : Vec Ideal ⟨2, ![8192, 2048]⟩ .f32) : Vec Ideal ⟨2, ![2, 2048]⟩ .f32 := fun j =>
  if (j 0).val = 0 then ∑ R : Fin 8192, rowTerm (fun l => X (ix2 R l)) (fun l => DY (ix2 R l)) (j 1)
  else ∑ R : Fin 8192, DY (ix2 R (j 1))

/-- The reference's number of degrees of freedom is the row's length less zero, and it is positive. -/
theorem freedom : Ideal.ofBits .f32 0x45000000#32 - (FloatOps.sitofp (F := Ideal) .f32 0#32 : EReal) = Ideal.ofBits .f32 0x45000000#32 := by
  have h : (FloatOps.sitofp (F := Ideal) .f32 0#32 : EReal) = 0 := sitofp_zero (φ := .f32)
  rw [h, sub_zero]
theorem freedom_pos : 0 < Ideal.ofBits .f32 0x45000000#32 := by
  rw [rowLength]; norm_num

/-- From any memory, the reference's run leaves the two gradients of its arguments, and keeps the arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread _ Cert.ReferenceIdeal.τ).loc Cert.ReferenceIdeal.main_v19)
            = gradients (m ((c.tc : Thread _ Cert.ReferenceIdeal.τ).loc Cert.ReferenceIdeal.main_arg0))
                (m ((c.tc : Thread _ Cert.ReferenceIdeal.τ).loc Cert.ReferenceIdeal.main_arg1))
        ∧ r.2.mem ((c.tc : Thread _ Cert.ReferenceIdeal.τ).loc Cert.ReferenceIdeal.main_arg0)
            = m ((c.tc : Thread _ Cert.ReferenceIdeal.τ).loc Cert.ReferenceIdeal.main_arg0)
        ∧ r.2.mem ((c.tc : Thread _ Cert.ReferenceIdeal.τ).loc Cert.ReferenceIdeal.main_arg1)
            = m ((c.tc : Thread _ Cert.ReferenceIdeal.τ).loc Cert.ReferenceIdeal.main_arg1)
        ∧ r.2.mem ((c.tc : Thread _ Cert.ReferenceIdeal.τ).loc Cert.ReferenceIdeal.main_arg2)
            = m ((c.tc : Thread _ Cert.ReferenceIdeal.τ).loc Cert.ReferenceIdeal.main_arg2) := by
  refine (θ_run _ _ _).mono (fun r h c => ⟨(h c).1.trans ?_, (h c).2⟩) (Cert.ReferenceIdeal.Value.run (F := Ideal) m g)
  generalize m ((c.tc : Thread _ Cert.ReferenceIdeal.τ).loc Cert.ReferenceIdeal.main_arg0) = X
  generalize m ((c.tc : Thread _ Cert.ReferenceIdeal.τ).loc Cert.ReferenceIdeal.main_arg1) = DY
  clear h
  funext j
  obtain ⟨a, k, rfl⟩ : ∃ (a : Fin 2) (k : Fin 2048), j = ix2 a k := ⟨j 0, j 1, eq_ix2 j⟩
  match a with
  | ⟨0, _⟩ =>
    pointwise [gradients, rowTerm]
    refine Finset.sum_congr rfl fun R _ => ?_
    rw [freedom, if_pos freedom_pos, ← one_div_sqrt (add_nonneg (rowVar_nonneg _) eps_nonneg)]
    rfl
  | ⟨1, _⟩ =>
    pointwise [gradients]

end Cert.KernelIdealRun
-- ==== Proof.ValueSums.lean ====
/-
  Every device's result is the reference's: the four devices' shares of eight blocks of 256 rows are the 8192 rows, each
  once, so the four partial results add up to the two gradients, in whatever order a device adds them.
-/
module

public import proofs.«01_k».proof.Proof.ValueReference
public import proofs.«01_k».proof.Proof.IdealLaunch
public import Idealize.ShloMosaic.Lib.Layout

@[expose] public section

noncomputable section

namespace Cert.KernelIdealRun

open Idealize.ShloMosaic Cert.KernelIdeal Cert.KernelIdeal.Gen
open scoped BigOperators

/-- A row of device `c`'s argument, as a row of the whole argument. -/
def wholeRow (c : Dev nD) (R : Fin 4096) : Fin 8192 :=
  ⟨4096 * (c.val % 2) + R.val, by have h := R.isLt; omega⟩

/-- The block of rows a device holds is its second mesh coordinate; its columns are all of them. -/
theorem block_row (c : Dev nD) : Layout.meshLin [2, 2] c.val [1] = c.val % 2 := by revert c; decide
theorem block_col (c : Dev nD) : Layout.meshLin [2, 2] c.val [] = 0 := rfl

/-- Device `c`'s argument: its block of rows of the whole. -/
def share (X : Vec Ideal ⟨2, ![8192, 2048]⟩ .f32) (c : Dev nD) : Vec Ideal S4096x2048 .f32 :=
  Layout.blockN ⟨2, ![4096, 2048]⟩ ⟨2, ![8192, 2048]⟩ (Layout.meshBlock [2, 2] ![[1], []] c) X

/-- It entry by entry. -/
theorem share_apply (X : Vec Ideal ⟨2, ![8192, 2048]⟩ .f32) (c : Dev nD) (R : Fin 4096) (l : Fin 2048) :
    share X c (ix2 R l)
      = X (ix2 (wholeRow c R) l) := by
  unfold share
  rw [Layout.blockN_apply]
  refine congrArg X (funext fun a => Fin.ext ?_)
  rw [Layout.TilesN.idx_val, Layout.meshBlock_val]
  match a with
  | ⟨0, _⟩ =>
    refine (congrArg (fun n : ℕ => n * 4096 + R.val) (block_row c)).trans ?_
    show c.val % 2 * 4096 + R.val = 4096 * (c.val % 2) + R.val
    omega
  | ⟨1, _⟩ =>
    refine (congrArg (fun n : ℕ => n * 2048 + l.val) (block_col c)).trans ?_
    show 0 * 2048 + l.val = l.val
    omega

/-- The devices' rows are the whole argument's rows, each once. -/
theorem rows_bijective :
    Function.Bijective fun p : Dev nD × Fin 8 × Fin 256 => wholeRow p.1 (ownRow p.1 p.2.1 p.2.2) := by
  rw [Fintype.bijective_iff_injective_and_card]
  refine ⟨?_, by simp [nD]⟩
  rintro ⟨c, i, r⟩ ⟨c', i', r'⟩ h
  have h0 : 4096 * (c.val % 2) + (2048 * (c.val / 2) + 256 * i.val + r.val)
      = 4096 * (c'.val % 2) + (2048 * (c'.val / 2) + 256 * i'.val + r'.val) := congrArg Fin.val h
  have hc : c.val < 4 := c.isLt
  have hc' : c'.val < 4 := c'.isLt
  have h1 := i.isLt
  have h1' := i'.isLt
  have h2 := r.isLt
  have h2' := r'.isLt
  refine Prod.ext (Fin.ext ?_) (Prod.ext (Fin.ext ?_) (Fin.ext ?_)) <;> dsimp only <;> omega

/-- So a sum over the devices, their blocks and the blocks' rows is a sum over all rows. -/
theorem sum_rows (f : Fin 8192 → EReal) :
    ∑ c : Dev nD, ∑ i : Fin 8, ∑ r : Fin 256, f (wholeRow c (ownRow c i r)) = ∑ R, f R := by
  rw [← rows_bijective.sum_comp, Fintype.sum_prod_type]
  exact Finset.sum_congr rfl fun c _ => (Fintype.sum_prod_type (fun p : Fin 8 × Fin 256 => f (wholeRow c (ownRow c p.1 p.2)))).symm

/-- A device's own value and its three peers' are the four devices' values. -/
theorem sum_peers (P : Dev nD → EReal) (c : Dev nD) : P c + (P (peer 0 c) + P (peer 1 c) + P (peer 2 c)) = ∑ d, P d := by
  have h : ∑ d : Dev nD, P d = P 0 + P 1 + P 2 + P 3 := Fin.sum_univ_four P
  rw [h]
  match c with
  | ⟨0, _⟩ => show P 0 + (P 1 + P 2 + P 3) = _; abel
  | ⟨1, _⟩ => show P 1 + (P 0 + P 3 + P 2) = _; abel
  | ⟨2, _⟩ => show P 2 + (P 3 + P 0 + P 1) = _; abel
  | ⟨3, _⟩ => show P 3 + (P 2 + P 1 + P 0) = _; abel

/-- With its share of `x` and of `dy` on each device, what a device writes is the two gradients. -/
theorem result_eq (X DY : Vec Ideal ⟨2, ![8192, 2048]⟩ .f32) (c : Dev nD) :
    resultAt (fun d => partialAt (share X d) (share DY d) d) c = gradients X DY := by
  funext j
  refine (resultAt_apply _ c j).trans ((sum_peers (fun d => partialAt (share X d) (share DY d) d j) c).trans ?_)
  obtain ⟨a, k, rfl⟩ : ∃ (a : Fin 2) (k : Fin 2048), j = ix2 a k := ⟨j 0, j 1, eq_ix2 j⟩
  match a with
  | ⟨0, _⟩ =>
    refine (Finset.sum_congr rfl fun d _ => partialAt_gamma _ _ d k).trans ?_
    simp only [share_apply]
    exact sum_rows fun R => rowTerm (fun l => X (ix2 R l)) (fun l => DY (ix2 R l)) k
  | ⟨1, _⟩ =>
    refine (Finset.sum_congr rfl fun d _ => partialAt_beta _ _ d k).trans ?_
    simp only [share_apply]
    exact sum_rows fun R => DY (ix2 R k)

/-- So it is on every device of a mesh whose arguments are the shares of the reference's. -/
theorem outAt_eq (m : (ℓ : Loc nD τ sig) → Buf (Elt Ideal) ℓ) (X DY : Vec Ideal ⟨2, ![8192, 2048]⟩ .f32)
    (hX : ∀ d, argX m d = share X d)
    (hDY : ∀ d, argDY m d = share DY d)
    (c : Dev nD) : outAt m c = gradients X DY := by
  refine Eq.trans ?_ (result_eq X DY c)
  unfold outAt
  refine congrArg (resultAt · c) (funext fun d => ?_)
  unfold PP
  rw [hX, hDY]

end Cert.KernelIdealRun
-- ==== Proof.lean ====
/-
The claims, from the runs: the kernel as printed and as idealized (one run theorem each), and the reference's,
whose result the idealized kernel's is.
-/
module

public import proofs.«01_k».proof.Defs
public import proofs.«01_k».proof.Proof.KernelLaunch
public import proofs.«01_k».proof.Proof.IdealLaunch
public import proofs.«01_k».proof.Proof.ValueSums
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The printed kernel: the run, at the bit-exact floats. -/
theorem frame_kernel : Cert.quiescent_Kernel (hKernel := Cert.Kernel.Gen.facts) := fun m g _ =>
  (θ_run Cert.Kernel.defs _ _).mono (fun _ h => ⟨fun c => (h.1 c).2, h.2⟩) (Cert.KernelRun.run_main (F := Bits) m g)

/-- The idealized kernel: the same, at the exact floats. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdealRun.run_main (F := Ideal) m g)

/-- The reference: host operations only, and no semaphore at all. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel's result is the reference's, on every device. -/
theorem value : Cert.algebraic_KernelIdeal_ReferenceIdeal (hKernelIdeal := Cert.KernelIdeal.Gen.facts)
    (hReferenceIdeal := Cert.ReferenceIdeal.Gen.facts) := fun m g m' g' _ hshare =>
  ⟨_, (θ_run Cert.KernelIdeal.defs _ _).mono
      (fun _ h c => ⟨(h.1 c).1.trans (Cert.KernelIdealRun.outAt_eq m _ _ (fun d => (hshare d).1) (fun d => (hshare d).2.1) c), (h.1 c).2⟩)
      (Cert.KernelIdealRun.run_main (F := Ideal) m g),
    (θ_run Cert.ReferenceIdeal.defs _ _).mono (fun _ h => h 0) (Cert.KernelIdealRun.reference_run m' g')⟩

theorem claim : Cert.Claim :=
  ⟨Cert.Kernel.Gen.facts, Cert.KernelIdeal.Gen.facts, Cert.ReferenceIdeal.Gen.facts, frame_kernel, frame_ideal, frame_reference,
    trivial, value⟩

end Cert.Proof

end
